-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_and_tiles : Cert.Pre_experts_and_tiles.Facts] (m : (ℓ : Loc Cert.Kernel2.nD Cert.Kernel2.τ Cert.Kernel2.sig) → Buf (Elt Bits) ℓ) : Prop :=
  ∀ c : Dev Cert.Kernel2.nD,
    (Cert.Pre_experts_and_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_experts_and_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_experts_and_tiles : Cert.Pre_experts_and_tiles.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_and_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_experts_and_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_and_tiles [hPre_experts_and_tiles : Cert.Pre_experts_and_tiles.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_and_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_experts_and_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] [hPre_experts_and_tiles : Cert.Pre_experts_and_tiles.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_and_tiles : Cert.Pre_experts_and_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_and_tiles [hReference2Ideal : Cert.Reference2Ideal.Facts] [hPre_experts_and_tiles : Cert.Pre_experts_and_tiles.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_and_tiles m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.bf16_pair.Statement Cert.Kernel2Ideal.S1024x1024 Cert.Kernel2Ideal.S512x1024
  ∧ IdealRules.bf16_pack.Statement Cert.Kernel2Ideal.S512x1024

def algebraic_Kernel2Ideal_Reference2Ideal [hKernel2Ideal : Cert.Kernel2Ideal.Facts] [hReference2Ideal : Cert.Reference2Ideal.Facts] [hPre_experts_and_tiles : Cert.Pre_experts_and_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v97) = v0 c
          ∧ r.2.mem ((c.tc : Thread Cert.Reference3Ideal.nD Cert.Reference3Ideal.τ).loc Cert.Reference3Ideal.main_v101) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_experts_and_tiles : Cert.Pre_experts_and_tiles.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_and_tiles := hPre_experts_and_tiles)
    ∧ quiescent_Kernel2Ideal (hKernel2Ideal := hKernel2Ideal) (hPre_experts_and_tiles := hPre_experts_and_tiles)
    ∧ quiescent_Reference2Ideal (hReference2Ideal := hReference2Ideal)
    ∧ quiescent_Reference2Ideal_pre_experts_and_tiles (hReference2Ideal := hReference2Ideal) (hPre_experts_and_tiles := hPre_experts_and_tiles)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_and_tiles := hPre_experts_and_tiles)
    ∧ preserves_Kernel3_Kernel3Ideal
    ∧ algebraic_Kernel3Ideal_Reference3Ideal (hKernel3Ideal := hKernel3Ideal) (hReference3Ideal := hReference3Ideal)
-- ==== Pre_experts_and_tiles.lean ====
abbrev S352 : Shape := ⟨1, ![352]⟩
abbrev S1 : Shape := ⟨1, ![1]⟩
abbrev S720896x1024 : Shape := ⟨2, ![720896, 1024]⟩
abbrev S4x64x2048x256 : Shape := ⟨4, ![4, 64, 2048, 256]⟩
abbrev S4x64x256x2048 : Shape := ⟨4, ![4, 64, 256, 2048]⟩
abbrev S_ : Shape := ⟨0, ![]⟩

class Facts : Prop where
  bcast_S_S352 : S_.BroadcastsInDim S352 (![] : Fin 0 → Fin S352.rank)
  bcast_S_S1 : S_.BroadcastsInDim S1 (![] : Fin 0 → Fin S1.rank)

variable [Facts]

def fn {F : FTy → Type} [FloatOps F] (main_arg0 : IVec S352 32) (main_arg1 : IVec S1 32) (main_arg2 : FVec F S720896x1024 .bf16) (main_arg3 : FVec F S4x64x2048x256 .f32) (main_arg4 : FVec F S4x64x2048x256 .f32) (main_arg5 : FVec F S4x64x256x2048 .f32) : IVec S352 1 × IVec S1 1 :=
  let main_c : IVec S_ 32 := constantI S_ 32 0#32
  let main_v0 : IVec S352 32 := broadcastInDim S352 ![] bcast_S_S352 main_c
  let main_v1 : IVec S352 1 := cmpi .sge main_arg0 main_v0
  let main_c_0 : IVec S_ 32 := constantI S_ 32 64#32
  let main_v2 : IVec S352 32 := broadcastInDim S352 ![] bcast_S_S352 main_c_0
  let main_v3 : IVec S352 1 := cmpi .slt main_arg0 main_v2
  let main_v4 : IVec S352 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S16x256x2048 : Shape := ⟨3, ![16, 256, 2048]⟩
abbrev S16x2048x2048 : Shape := ⟨3, ![16, 2048, 2048]⟩
abbrev S4x2048 : Shape := ⟨2, ![4, 2048]⟩
abbrev S2048 : Shape := ⟨1, ![2048]⟩
abbrev S8x256x256 : Shape := ⟨3, ![8, 256, 256]⟩
abbrev S256x16x2048 : Shape := ⟨3, ![256, 16, 2048]⟩
abbrev S4096x2048 : Shape := ⟨2, ![4096, 2048]⟩
abbrev S2048x16x2048 : Shape := ⟨3, ![2048, 16, 2048]⟩
abbrev S32768x2048 : Shape := ⟨2, ![32768, 2048]⟩
abbrev S36864x2048 : Shape := ⟨2, ![36864, 2048]⟩
abbrev S1x2048 : Shape := ⟨2, ![1, 2048]⟩
abbrev S256x2048 : Shape := ⟨2, ![256, 2048]⟩
abbrev S32x2048 : Shape := ⟨2, ![32, 2048]⟩
abbrev S16x2048 : Shape := ⟨2, ![16, 2048]⟩
abbrev S256x256 : Shape := ⟨2, ![256, 256]⟩
abbrev S32x256 : Shape := ⟨2, ![32, 256]⟩
abbrev S16x256 : Shape := ⟨2, ![16, 256]⟩
abbrev S304x256 : Shape := ⟨2, ![304, 256]⟩
abbrev S1x256 : Shape := ⟨2, ![1, 256]⟩
abbrev S1x256x256 : Shape := ⟨3, ![1, 256, 256]⟩

abbrev nBuf : Space → Nat
  | .hbm => 22
  | .vmem => 16
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S4x2048, .f32⟩
  | .hbm, ⟨3, _⟩ => ⟨S2048, .f32⟩
  | .hbm, ⟨4, _⟩ => ⟨S8x256x256, .f32⟩
  | .hbm, ⟨5, _⟩ => ⟨S2048, .f32⟩
  | .hbm, ⟨6, _⟩ => ⟨S8x256x256, .f32⟩
  | .hbm, ⟨7, _⟩ => ⟨S2048, .f32⟩
  | .hbm, ⟨8, _⟩ => ⟨S2048, .f32⟩
  | .hbm, ⟨9, _⟩ => ⟨S256x16x2048, .f32⟩
  | .hbm, ⟨10, _⟩ => ⟨S4096x2048, .f32⟩
  | .hbm, ⟨11, _⟩ => ⟨S2048x16x2048, .f32⟩
  | .hbm, ⟨12, _⟩ => ⟨S32768x2048, .f32⟩
  | .hbm, ⟨13, _⟩ => ⟨S36864x2048, .f32⟩
  | .hbm, ⟨14, _⟩ => ⟨S36864x2048, .bf16⟩
  | .hbm, ⟨15, _⟩ => ⟨S1x2048, .f32⟩
  | .hbm, ⟨16, _⟩ => ⟨S8x256x256, .bf16⟩
  | .hbm, ⟨17, _⟩ => ⟨S8x256x256, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S36864x2048, .bf16⟩
  | .local _ .vmem, ⟨0, _⟩ => ⟨S256x2048, .bf16⟩
  | .local _ .vmem, ⟨1, _⟩ => ⟨S256x2048, .bf16⟩
  | .local _ .vmem, ⟨2, _⟩ => ⟨S32x2048, .bf16⟩
  | .local _ .vmem, ⟨3, _⟩ => ⟨S32x2048, .bf16⟩
  | .local _ .vmem, ⟨4, _⟩ => ⟨S16x2048, .bf16⟩
  | .local _ .vmem, ⟨5, _⟩ => ⟨S16x2048, .bf16⟩
  | .local _ .vmem, ⟨6, _⟩ => ⟨S4x2048, .f32⟩
  | .local _ .vmem, ⟨7, _⟩ => ⟨S1x2048, .f32⟩
  | .local _ .vmem, ⟨8, _⟩ => ⟨S8x256x256, .bf16⟩
  | .local _ .vmem, ⟨9, _⟩ => ⟨S8x256x256, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S16x2048, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2303_i32 : BitVec 32 := 2303#32
  let v2 : BitVec 32 := Scalar.minsi v1 c2303_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x256x2048 : Shape := ⟨3, ![16, 256, 2048]⟩
abbrev S16x2048x2048 : Shape := ⟨3, ![16, 2048, 2048]⟩
abbrev S4x2048 : Shape := ⟨2, ![4, 2048]⟩
abbrev S2048 : Shape := ⟨1, ![2048]⟩
abbrev S8x256x256 : Shape := ⟨3, ![8, 256, 256]⟩
abbrev S_ : Shape := ⟨0, ![]⟩
abbrev S16x2051x2048 : Shape := ⟨3, ![16, 2051, 2048]⟩
abbrev S1x2048 : Shape := ⟨2, ![1, 2048]⟩
abbrev S1x1x2048 : Shape := ⟨3, ![1, 1, 2048]⟩
abbrev S16x259x2048 : Shape := ⟨3, ![16, 259, 2048]⟩
abbrev S16x2048 : Shape := ⟨2, ![16, 2048]⟩
abbrev S16x2304x2048 : Shape := ⟨3, ![16, 2304, 2048]⟩
abbrev S16x2304x8x256 : Shape := ⟨4, ![16, 2304, 8, 256]⟩
abbrev S8x256x16x2304 : Shape := ⟨4, ![8, 256, 16, 2304]⟩
abbrev S2304x16x2048 : Shape := ⟨3, ![2304, 16, 2048]⟩
abbrev S1x16x2048 : Shape := ⟨3, ![1, 16, 2048]⟩
abbrev S36864x2048 : Shape := ⟨2, ![36864, 2048]⟩

abbrev nBuf : Space → Nat
  | .hbm => 168
  | .vmem => 0
  | .smem => 0
  | _ => 0

abbrev hbmTy0_0 (i : Nat) : BufTy := match i % 128 with
  | 0 => ⟨S16x256x2048, .f32⟩
  | 1 => ⟨S16x2048x2048, .f32⟩
  | 2 => ⟨S4x2048, .f32⟩
  | 3 => ⟨S2048, .f32⟩
  | 4 => ⟨S8x256x256, .f32⟩
  | 5 => ⟨S2048, .f32⟩
  | 6 => ⟨S8x256x256, .f32⟩
  | 7 => ⟨S2048, .f32⟩
  | 8 => ⟨S2048, .f32⟩
  | 9 => ⟨S_, .i32⟩
  | 10 => ⟨S_, .f32⟩
  | 11 => ⟨S16x2051x2048, .f32⟩
  | 12 => ⟨S16x2048x2048, .f32⟩
  | 13 => ⟨S1x2048, .f32⟩
  | 14 => ⟨S2048, .f32⟩
  | 15 => ⟨S1x1x2048, .f32⟩
  | 16 => ⟨S16x2048x2048, .f32⟩
  | 17 => ⟨S16x2048x2048, .f32⟩
  | 18 => ⟨S16x2048x2048, .f32⟩
  | 19 => ⟨S1x2048, .f32⟩
  | 20 => ⟨S2048, .f32⟩
  | 21 => ⟨S1x1x2048, .f32⟩
  | 22 => ⟨S16x2048x2048, .f32⟩
  | 23 => ⟨S16x2048x2048, .f32⟩
  | 24 => ⟨S16x2048x2048, .f32⟩
  | 25 => ⟨S16x2048x2048, .f32⟩
  | 26 => ⟨S1x2048, .f32⟩
  | 27 => ⟨S2048, .f32⟩
  | 28 => ⟨S1x1x2048, .f32⟩
  | 29 => ⟨S16x2048x2048, .f32⟩
  | 30 => ⟨S16x2048x2048, .f32⟩
  | 31 => ⟨S16x2048x2048, .f32⟩
  | 32 => ⟨S16x2048x2048, .f32⟩
  | 33 => ⟨S1x2048, .f32⟩
  | 34 => ⟨S2048, .f32⟩
  | 35 => ⟨S1x1x2048, .f32⟩
  | 36 => ⟨S16x2048x2048, .f32⟩
  | 37 => ⟨S16x2048x2048, .f32⟩
  | 38 => ⟨S16x2048x2048, .f32⟩
  | 39 => ⟨S1x1x2048, .f32⟩
  | 40 => ⟨S16x2048x2048, .f32⟩
  | 41 => ⟨S16x2048x2048, .f32⟩
  | 42 => ⟨S_, .i32⟩
  | 43 => ⟨S_, .f32⟩
  | 44 => ⟨S16x259x2048, .f32⟩
  | 45 => ⟨S16x256x2048, .f32⟩
  | 46 => ⟨S1x2048, .f32⟩
  | 47 => ⟨S2048, .f32⟩
  | 48 => ⟨S1x1x2048, .f32⟩
  | 49 => ⟨S16x256x2048, .f32⟩
  | 50 => ⟨S16x256x2048, .f32⟩
  | 51 => ⟨S16x256x2048, .f32⟩
  | 52 => ⟨S1x2048, .f32⟩
  | 53 => ⟨S2048, .f32⟩
  | 54 => ⟨S1x1x2048, .f32⟩
  | 55 => ⟨S16x256x2048, .f32⟩
  | 56 => ⟨S16x256x2048, .f32⟩
  | 57 => ⟨S16x256x2048, .f32⟩
  | 58 => ⟨S16x256x2048, .f32⟩
  | 59 => ⟨S1x2048, .f32⟩
  | 60 => ⟨S2048, .f32⟩
  | 61 => ⟨S1x1x2048, .f32⟩
  | 62 => ⟨S16x256x2048, .f32⟩
  | 63 => ⟨S16x256x2048, .f32⟩
  | 64 => ⟨S16x256x2048, .f32⟩
  | 65 => ⟨S16x256x2048, .f32⟩
  | 66 => ⟨S1x2048, .f32⟩
  | 67 => ⟨S2048, .f32⟩
  | 68 => ⟨S1x1x2048, .f32⟩
  | 69 => ⟨S16x256x2048, .f32⟩
  | 70 => ⟨S16x256x2048, .f32⟩
  | 71 => ⟨S16x256x2048, .f32⟩
  | 72 => ⟨S1x1x2048, .f32⟩
  | 73 => ⟨S16x256x2048, .f32⟩
  | 74 => ⟨S16x256x2048, .f32⟩
  | 75 => ⟨S_, .f32⟩
  | 76 => ⟨S16x2048, .f32⟩
  | 77 => ⟨S16x2304x2048, .f32⟩
  | 78 => ⟨S16x2304x8x256, .f32⟩
  | 79 => ⟨S8x256x16x2304, .f32⟩
  | 80 => ⟨S16x2304x8x256, .f32⟩
  | 81 => ⟨S16x2304x2048, .f32⟩
  | 82 => ⟨S1x1x2048, .f32⟩
  | 83 => ⟨S16x2304x2048, .f32⟩
  | 84 => ⟨S16x2304x2048, .f32⟩
  | 85 => ⟨S16x2304x2048, .f32⟩
  | 86 => ⟨S16x2304x2048, .f32⟩
  | 87 => ⟨S_, .f32⟩
  | 88 => ⟨S16x2304x2048, .f32⟩
  | 89 => ⟨S16x2304x2048, .f32⟩
  | 90 => ⟨S_, .f32⟩
  | 91 => ⟨S16x2304x2048, .f32⟩
  | 92 => ⟨S16x2304x2048, .f32⟩
  | 93 => ⟨S8x256x16x2304, .f32⟩
  | 94 => ⟨S16x2304x8x256, .f32⟩
  | 95 => ⟨S16x2304x2048, .f32⟩
  | 96 => ⟨S1x1x2048, .f32⟩
  | 97 => ⟨S16x2304x2048, .f32⟩
  | 98 => ⟨S16x2304x2048, .f32⟩
  | 99 => ⟨S16x2304x2048, .f32⟩
  | 100 => ⟨S16x2304x2048, .f32⟩
  | 101 => ⟨S_, .f32⟩
  | 102 => ⟨S16x2304x2048, .f32⟩
  | 103 => ⟨S16x2304x2048, .f32⟩
  | 104 => ⟨S_, .f32⟩
  | 105 => ⟨S16x2304x2048, .f32⟩
  | 106 => ⟨S16x2304x2048, .f32⟩
  | 107 => ⟨S_, .f32⟩
  | 108 => ⟨S16x2304x2048, .f32⟩
  | 109 => ⟨S16x2304x2048, .f32⟩
  | 110 => ⟨S2048, .f32⟩
  | 111 => ⟨S_, .f32⟩
  | 112 => ⟨S2048, .f32⟩
  | 113 => ⟨S2048, .f32⟩
  | 114 => ⟨S2048, .f32⟩
  | 115 => ⟨S2048, .f32⟩
  | 116 => ⟨S2048, .i1⟩
  | 117 => ⟨S2048, .f32⟩
  | 118 => ⟨S2048, .f32⟩
  | 119 => ⟨S2048, .f32⟩
  | 120 => ⟨S2048, .f32⟩
  | 121 => ⟨S2048, .f32⟩
  | 122 => ⟨S2048, .f32⟩
  | 123 => ⟨S2048, .f32⟩
  | 124 => ⟨S2048, .f32⟩
  | 125 => ⟨S2048, .f32⟩
  | 126 => ⟨S1x1x2048, .f32⟩
  | 127 => ⟨S16x2304x2048, .f32⟩
  | _ => ⟨S16x256x2048, .f32⟩

abbrev hbmTy0_1 (i : Nat) : BufTy := match i % 128 with
  | 0 => ⟨S16x2304x2048, .f32⟩
  | 1 => ⟨S16x2304x2048, .f32⟩
  | 2 => ⟨S_, .f32⟩
  | 3 => ⟨S16x2304x2048, .f32⟩
  | 4 => ⟨S16x2304x2048, .f32⟩
  | 5 => ⟨S16x2304x2048, .f32⟩
  | 6 => ⟨S16x2304x2048, .f32⟩
  | 7 => ⟨S16x2304x2048, .f32⟩
  | 8 => ⟨S16x2304x2048, .f32⟩
  | 9 => ⟨S16x2304x2048, .f32⟩
  | 10 => ⟨S2304x16x2048, .f32⟩
  | 11 => ⟨S2304x16x2048, .f32⟩
  | 12 => ⟨S_, .f32⟩
  | 13 => ⟨S2304x16x2048, .f32⟩
  | 14 => ⟨S_, .i32⟩
  | 15 => ⟨S2304x16x2048, .f32⟩
  | 16 => ⟨S2304x16x2048, .f32⟩
  | 17 => ⟨S_, .i32⟩
  | 18 => ⟨S16x2048, .f32⟩
  | 19 => ⟨S2304x16x2048, .f32⟩
  | 20 => ⟨S_, .i32⟩
  | 21 => ⟨S_, .i1⟩
  | 22 => ⟨S_, .i32⟩
  | 23 => ⟨S_, .i32⟩
  | 24 => ⟨S1x16x2048, .f32⟩
  | 25 => ⟨S16x2048, .f32⟩
  | 26 => ⟨S_, .i32⟩
  | 27 => ⟨S_, .i32⟩
  | 28 => ⟨S1x16x2048, .f32⟩
  | 29 => ⟨S16x2048, .f32⟩
  | 30 => ⟨S16x2048, .f32⟩
  | 31 => ⟨S16x2048, .f32⟩
  | 32 => ⟨S1x16x2048, .f32⟩
  | 33 => ⟨S_, .i32⟩
  | 34 => ⟨S_, .i32⟩
  | 35 => ⟨S2304x16x2048, .f32⟩
  | 36 => ⟨S_, .i32⟩
  | 37 => ⟨S_, .i32⟩
  | 38 => ⟨S36864x2048, .f32⟩
  | 39 => ⟨S36864x2048, .bf16⟩
  | _ => ⟨S16x256x2048, .f32⟩

abbrev hbmTy (i : Nat) : BufTy := match i / 128 with
  | 0 => hbmTy0_0 i
  | 1 => hbmTy0_1 i
  | _ => ⟨S16x256x2048, .f32⟩

abbrev bufTy : (tb : Table) → Fin (tcTables nBuf tb) → BufTy
  | .hbm, ⟨i, _⟩ => hbmTy i
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_0 : Ref sig .tc := ⟨.hbm, 42, rfl⟩
abbrev main_call1_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_1 : Ref sig .tc := ⟨.hbm, 87, rfl⟩
abbrev main_v73 : Ref sig .tc := ⟨.hbm, 88, rfl⟩
abbrev main_v74 : Ref sig .tc := ⟨.hbm, 89, rfl⟩
abbrev main_cst_2 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_3 : Ref sig .tc := ⟨.hbm, 101, rfl⟩
abbrev main_v85 : Ref sig .tc := ⟨.hbm, 102, rfl⟩
abbrev main_v86 : Ref sig .tc := ⟨.hbm, 103, rfl⟩
abbrev main_cst_4 : Ref sig .tc := ⟨.hbm, 104, rfl⟩
abbrev main_v87 : Ref sig .tc := ⟨.hbm, 105, rfl⟩
abbrev main_v88 : Ref sig .tc := ⟨.hbm, 106, rfl⟩
abbrev main_cst_5 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_6 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_7 : Ref sig .tc := ⟨.hbm, 140, rfl⟩
abbrev main_v107 : Ref sig .tc := ⟨.hbm, 141, rfl⟩
abbrev main_c_8 : Ref sig .tc := ⟨.hbm, 142, rfl⟩
abbrev main_v108_0 : Ref sig .tc := ⟨.hbm, 143, rfl⟩
abbrev main_v108_1 : Ref sig .tc := ⟨.hbm, 144, rfl⟩
abbrev main_v108_2 : Ref sig .tc := ⟨.hbm, 145, rfl⟩
abbrev main_v108_3 : Ref sig .tc := ⟨.hbm, 146, rfl⟩
abbrev main_v108_4 : Ref sig .tc := ⟨.hbm, 147, rfl⟩
abbrev main_while0c_c_13 : Ref sig .tc := ⟨.hbm, 148, rfl⟩
abbrev main_while0c_v111 : Ref sig .tc := ⟨.hbm, 149, rfl⟩
abbrev main_while0b_call3_c : Ref sig .tc := ⟨.hbm, 150, rfl⟩
abbrev main_while0b_call3_c_0 : Ref sig .tc := ⟨.hbm, 151, rfl⟩
abbrev main_while0b_call3_v0 : Ref sig .tc := ⟨.hbm, 152, rfl⟩
abbrev main_while0b_v111 : Ref sig .tc := ⟨.hbm, 153, rfl⟩
abbrev main_while0b_call4_c : Ref sig .tc := ⟨.hbm, 154, rfl⟩
abbrev main_while0b_call4_c_0 : Ref sig .tc := ⟨.hbm, 155, rfl⟩
abbrev main_while0b_call4_v0 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_call5_v0 : Ref sig .tc := ⟨.hbm, 160, rfl⟩
abbrev main_while0b_call5_c : Ref sig .tc := ⟨.hbm, 161, rfl⟩
abbrev main_while0b_call5_c_0 : Ref sig .tc := ⟨.hbm, 162, rfl⟩
abbrev main_while0b_v115 : Ref sig .tc := ⟨.hbm, 163, rfl⟩
abbrev main_while0b_c_13 : Ref sig .tc := ⟨.hbm, 164, rfl⟩
abbrev main_while0b_v116 : Ref sig .tc := ⟨.hbm, 165, rfl⟩
abbrev main_v109 : Ref sig .tc := ⟨.hbm, 166, rfl⟩
abbrev main_v110 : Ref sig .tc := ⟨.hbm, 167, rfl⟩

abbrev nD : Nat := 1
abbrev τ : Topo := Topo.v7x

variable {F : FTy → Type} [FloatOps F]

abbrev main_while0_count : Scf.Loop 32 := ⟨0#32, 2304#32, 1#32⟩
-- ==== Kernel2.lean ====
abbrev S352 : Shape := ⟨1, ![352]⟩
abbrev S1 : Shape := ⟨1, ![1]⟩
abbrev S720896x1024 : Shape := ⟨2, ![720896, 1024]⟩
abbrev S4x64x2048x256 : Shape := ⟨4, ![4, 64, 2048, 256]⟩
abbrev S4x64x256x2048 : Shape := ⟨4, ![4, 64, 256, 2048]⟩
abbrev S2048x1024 : Shape := ⟨2, ![2048, 1024]⟩
abbrev S1x1x2048x256 : Shape := ⟨4, ![1, 1, 2048, 256]⟩
abbrev S1x1x256x2048 : Shape := ⟨4, ![1, 1, 256, 2048]⟩
abbrev S2048x256 : Shape := ⟨2, ![2048, 256]⟩
abbrev S256x2048 : Shape := ⟨2, ![256, 2048]⟩
abbrev S1024x1024 : Shape := ⟨2, ![1024, 1024]⟩
abbrev S512x1024 : Shape := ⟨2, ![512, 1024]⟩
abbrev S1024x256 : Shape := ⟨2, ![1024, 256]⟩
abbrev S512x256 : Shape := ⟨2, ![512, 256]⟩
abbrev S512x2048 : Shape := ⟨2, ![512, 2048]⟩

abbrev nBuf : Space → Nat
  | .hbm => 5
  | .vmem => 13
  | .smem => 2
  | _ => 0

abbrev bufTy : (tb : Table) → Fin (tcTables nBuf tb) → BufTy
  | .hbm, ⟨0, _⟩ => ⟨S720896x1024, .bf16⟩
  | .hbm, ⟨1, _⟩ => ⟨S4x64x2048x256, .f32⟩
  | .hbm, ⟨2, _⟩ => ⟨S4x64x2048x256, .f32⟩
  | .hbm, ⟨3, _⟩ => ⟨S4x64x256x2048, .f32⟩
  | .hbm, ⟨4, _⟩ => ⟨S720896x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S2048x1024, .bf16⟩
  | .local _ .vmem, ⟨9, _⟩ => ⟨S2048x1024, .bf16⟩
  | .local _ .vmem, ⟨10, _⟩ => ⟨S2048x256, .bf16⟩
  | .local _ .vmem, ⟨11, _⟩ => ⟨S2048x256, .bf16⟩
  | .local _ .vmem, ⟨12, _⟩ => ⟨S256x2048, .bf16⟩
  | .local _ .smem, ⟨0, _⟩ => ⟨S352, .i32⟩
  | .local _ .smem, ⟨1, _⟩ => ⟨S1, .i32⟩
  | _, _ => ⟨S720896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![352], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
variable {F : FTy → Type} [FloatOps F]
-- ==== Reference2Ideal.lean ====
abbrev S352 : Shape := ⟨1, ![352]⟩
abbrev S1 : Shape := ⟨1, ![1]⟩
abbrev S720896x1024 : Shape := ⟨2, ![720896, 1024]⟩
abbrev S4x64x2048x256 : Shape := ⟨4, ![4, 64, 2048, 256]⟩
abbrev S4x64x256x2048 : Shape := ⟨4, ![4, 64, 256, 2048]⟩
abbrev S360448x2048 : Shape := ⟨2, ![360448, 2048]⟩
abbrev S_ : Shape := ⟨0, ![]⟩
abbrev S352x1024 : Shape := ⟨2, ![352, 1024]⟩
abbrev S360448 : Shape := ⟨1, ![360448]⟩
abbrev S64 : Shape := ⟨1, ![64]⟩
abbrev S64x1 : Shape := ⟨2, ![64, 1]⟩
abbrev S1x360448 : Shape := ⟨2, ![1, 360448]⟩
abbrev S64x360448 : Shape := ⟨2, ![64, 360448]⟩
abbrev S1x64x2048x256 : Shape := ⟨4, ![1, 64, 2048, 256]⟩
abbrev S64x2048x256 : Shape := ⟨3, ![64, 2048, 256]⟩
abbrev S1x64x256x2048 : Shape := ⟨4, ![1, 64, 256, 2048]⟩
abbrev S64x256x2048 : Shape := ⟨3, ![64, 256, 2048]⟩
abbrev S1x2048x256 : Shape := ⟨3, ![1, 2048, 256]⟩
abbrev S2048x256 : Shape := ⟨2, ![2048, 256]⟩
abbrev S1x256x2048 : Shape := ⟨3, ![1, 256, 2048]⟩
abbrev S256x2048 : Shape := ⟨2, ![256, 2048]⟩
abbrev S360448x1 : Shape := ⟨2, ![360448, 1]⟩
abbrev S360448x256 : Shape := ⟨2, ![360448, 256]⟩

abbrev nBuf : Space → Nat
  | .hbm => 79
  | .vmem => 0
  | .smem => 0
  | _ => 0

abbrev bufTy : (tb : Table) → Fin (tcTables nBuf tb) → BufTy
  | .hbm, ⟨0, _⟩ => ⟨S352, .i32⟩
  | .hbm, ⟨1, _⟩ => ⟨S1, .i32⟩
  | .hbm, ⟨2, _⟩ => ⟨S720896x1024, .bf16⟩
  | .hbm, ⟨3, _⟩ => ⟨S4x64x2048x256, .f32⟩
  | .hbm, ⟨4, _⟩ => ⟨S4x64x2048x256, .f32⟩
  | .hbm, ⟨5, _⟩ => ⟨S4x64x256x2048, .f32⟩
  | .hbm, ⟨6, _⟩ => ⟨S720896x1024, .f32⟩
  | .hbm, ⟨7, _⟩ => ⟨S360448x2048, .f32⟩
  | .hbm, ⟨8, _⟩ => ⟨S352, .i32⟩
  | .hbm, ⟨9, _⟩ => ⟨S_, .i32⟩
  | .hbm, ⟨10, _⟩ => ⟨S352, .i32⟩
  | .hbm, ⟨11, _⟩ => ⟨S352, .i1⟩
  | .hbm, ⟨12, _⟩ => ⟨S_, .i32⟩
  | .hbm, ⟨13, _⟩ => ⟨S_, .i32⟩
  | .hbm, ⟨14, _⟩ => ⟨S352, .i32⟩
  | .hbm, ⟨15, _⟩ => ⟨S352, .i32⟩
  | .hbm, ⟨16, _⟩ => ⟨S352x1024, .i32⟩
  | .hbm, ⟨17, _⟩ => ⟨S360448, .i32⟩
  | .hbm, ⟨18, _⟩ => ⟨S64, .i32⟩
  | .hbm, ⟨19, _⟩ => ⟨S64x1, .i32⟩
  | .hbm, ⟨20, _⟩ => ⟨S1x360448, .i32⟩
  | .hbm, ⟨21, _⟩ => ⟨S64x360448, .i32⟩
  | .hbm, ⟨22, _⟩ => ⟨S64x360448, .i32⟩
  | .hbm, ⟨23, _⟩ => ⟨S64x360448, .i1⟩
  | .hbm, ⟨24, _⟩ => ⟨S64x360448, .f32⟩
  | .hbm, ⟨25, _⟩ => ⟨S_, .f32⟩
  | .hbm, ⟨26, _⟩ => ⟨S360448x2048, .f32⟩
  | .hbm, ⟨27, _⟩ => ⟨S1x64x2048x256, .f32⟩
  | .hbm, ⟨28, _⟩ => ⟨S64x2048x256, .f32⟩
  | .hbm, ⟨29, _⟩ => ⟨S1x64x2048x256, .f32⟩
  | .hbm, ⟨30, _⟩ => ⟨S64x2048x256, .f32⟩
  | .hbm, ⟨31, _⟩ => ⟨S1x64x256x2048, .f32⟩
  | .hbm, ⟨32, _⟩ => ⟨S64x256x2048, .f32⟩
  | .hbm, ⟨33, _⟩ => ⟨S_, .i32⟩
  | .hbm, ⟨34, _⟩ => ⟨S64x2048x256, .f32⟩
  | .hbm, ⟨35, _⟩ => ⟨S64x2048x256, .f32⟩
  | .hbm, ⟨36, _⟩ => ⟨S64x256x2048, .f32⟩
  | .hbm, ⟨37, _⟩ => ⟨S64x360448, .f32⟩
  | .hbm, ⟨38, _⟩ => ⟨S360448x2048, .f32⟩
  | .hbm, ⟨39, _⟩ => ⟨S_, .i32⟩
  | .hbm, ⟨40, _⟩ => ⟨S360448x2048, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1x2048x256, .f32⟩
  | .hbm, ⟨46, _⟩ => ⟨S2048x256, .f32⟩
  | .hbm, ⟨47, _⟩ => ⟨S_, .i32⟩
  | .hbm, ⟨48, _⟩ => ⟨S_, .i32⟩
  | .hbm, ⟨49, _⟩ => ⟨S1x2048x256, .f32⟩
  | .hbm, ⟨50, _⟩ => ⟨S2048x256, .f32⟩
  | .hbm, ⟨51, _⟩ => ⟨S_, .i32⟩
  | .hbm, ⟨52, _⟩ => ⟨S_, .i32⟩
  | .hbm, ⟨53, _⟩ => ⟨S1x256x2048, .f32⟩
  | .hbm, ⟨54, _⟩ => ⟨S256x2048, .f32⟩
  | .hbm, ⟨55, _⟩ => ⟨S_, .i32⟩
  | .hbm, ⟨56, _⟩ => ⟨S1x360448, .f32⟩
  | .hbm, ⟨57, _⟩ => ⟨S360448, .f32⟩
  | .hbm, ⟨58, _⟩ => ⟨S360448x1, .f32⟩
  | .hbm, ⟨59, _⟩ => ⟨S360448x256, .f32⟩
  | .hbm, ⟨60, _⟩ => ⟨S360448x256, .f32⟩
  | .hbm, ⟨61, _⟩ => ⟨S360448x256, .f32⟩
  | .hbm, ⟨62, _⟩ => ⟨S_, .f32⟩
  | .hbm, ⟨63, _⟩ => ⟨S360448x256, .f32⟩
  | .hbm, ⟨64, _⟩ => ⟨S360448x256, .f32⟩
  | .hbm, ⟨65, _⟩ => ⟨S_, .f32⟩
  | .hbm, ⟨66, _⟩ => ⟨S360448x256, .f32⟩
  | .hbm, ⟨67, _⟩ => ⟨S360448x256, .f32⟩
  | .hbm, ⟨68, _⟩ => ⟨S360448x256, .f32⟩
  | .hbm, ⟨69, _⟩ => ⟨S360448x256, .f32⟩
  | .hbm, ⟨70, _⟩ => ⟨S360448x256, .f32⟩
  | .hbm, ⟨71, _⟩ => ⟨S360448x2048, .f32⟩
  | .hbm, ⟨72, _⟩ => ⟨S360448x2048, .f32⟩
  | .hbm, ⟨73, _⟩ => ⟨S360448x2048, .f32⟩
  | .hbm, ⟨74, _⟩ => ⟨S360448x2048, .f32⟩
  | .hbm, ⟨75, _⟩ => ⟨S_, .i32⟩
  | .hbm, ⟨76, _⟩ => ⟨S_, .i32⟩
  | .hbm, ⟨77, _⟩ => ⟨S360448x2048, .bf16⟩
  | .hbm, ⟨78, _⟩ => ⟨S720896x1024, .bf16⟩
  | _, _ => ⟨S352, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_0 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev main_v23_5 : Ref sig .tc := ⟨.hbm, 39, rfl⟩
abbrev main_v23_6 : Ref sig .tc := ⟨.hbm, 40, rfl⟩
abbrev main_while0c_c_7 : Ref sig .tc := ⟨.hbm, 41, rfl⟩
abbrev main_while0c_v26 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_v0 : Ref sig .tc := ⟨.hbm, 45, rfl⟩
abbrev main_while0b_v26 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_v0 : Ref sig .tc := ⟨.hbm, 49, rfl⟩
abbrev main_while0b_v27 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_v0 : Ref sig .tc := ⟨.hbm, 53, rfl⟩
abbrev main_while0b_v28 : Ref sig .tc := ⟨.hbm, 54, rfl⟩
abbrev main_while0b_call4_c : Ref sig .tc := ⟨.hbm, 55, rfl⟩
abbrev main_while0b_call4_v0 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_call5_v0 : Ref sig .tc := ⟨.hbm, 60, rfl⟩
abbrev main_while0b_call5_v1 : Ref sig .tc := ⟨.hbm, 61, rfl⟩
abbrev main_while0b_call5_cst : Ref sig .tc := ⟨.hbm, 62, rfl⟩
abbrev main_while0b_call5_v2 : Ref sig .tc := ⟨.hbm, 63, rfl⟩
abbrev main_while0b_call5_v3 : Ref sig .tc := ⟨.hbm, 64, rfl⟩
abbrev main_while0b_call5_cst_0 : Ref sig .tc := ⟨.hbm, 65, rfl⟩
abbrev main_while0b_call5_v4 : Ref sig .tc := ⟨.hbm, 66, rfl⟩
abbrev main_while0b_call5_v5 : Ref sig .tc := ⟨.hbm, 67, rfl⟩
abbrev main_while0b_v32 : Ref sig .tc := ⟨.hbm, 68, rfl⟩
abbrev main_while0b_v33 : Ref sig .tc := ⟨.hbm, 69, rfl⟩
abbrev main_while0b_v34 : Ref sig .tc := ⟨.hbm, 70, rfl⟩
abbrev main_while0b_v35 : Ref sig .tc := ⟨.hbm, 71, rfl⟩
abbrev main_while0b_v36 : Ref sig .tc := ⟨.hbm, 72, rfl⟩
abbrev main_while0b_v37 : Ref sig .tc := ⟨.hbm, 73, rfl⟩
abbrev main_while0b_v38 : Ref sig .tc := ⟨.hbm, 74, rfl⟩
abbrev main_while0b_c_7 : Ref sig .tc := ⟨.hbm, 75, rfl⟩
abbrev main_while0b_v39 : Ref sig .tc := ⟨.hbm, 76, rfl⟩
abbrev main_v24 : Ref sig .tc := ⟨.hbm, 77, rfl⟩
abbrev main_v25 : Ref sig .tc := ⟨.hbm, 78, rfl⟩

abbrev nD : Nat := 1
abbrev τ : Topo := Topo.v7x

variable {F : FTy → Type} [FloatOps F]

abbrev main_while0_count : Scf.Loop 32 := ⟨0#32, 64#32, 1#32⟩
-- ==== Kernel3.lean ====
abbrev S16x256x2048 : Shape := ⟨3, ![16, 256, 2048]⟩
abbrev S16x2048x2048 : Shape := ⟨3, ![16, 2048, 2048]⟩
abbrev S2048 : Shape := ⟨1, ![2048]⟩
abbrev S1x12288 : Shape := ⟨2, ![1, 12288]⟩
abbrev S16x12288 : Shape := ⟨2, ![16, 12288]⟩
abbrev S2048x4096 : Shape := ⟨2, ![2048, 4096]⟩
abbrev S256x16x2048 : Shape := ⟨3, ![256, 16, 2048]⟩
abbrev S4096x2048 : Shape := ⟨2, ![4096, 2048]⟩
abbrev S2048x16x2048 : Shape := ⟨3, ![2048, 16, 2048]⟩
abbrev S32768x2048 : Shape := ⟨2, ![32768, 2048]⟩
abbrev S36864x2048 : Shape := ⟨2, ![36864, 2048]⟩
abbrev S17x12288 : Shape := ⟨2, ![17, 12288]⟩
abbrev S256x12288 : Shape := ⟨2, ![256, 12288]⟩
abbrev S1x16x1x12288 : Shape := ⟨4, ![1, 16, 1, 12288]⟩
abbrev S16x16x1x12288 : Shape := ⟨4, ![16, 16, 1, 12288]⟩
abbrev S1x256x12288 : Shape := ⟨3, ![1, 256, 12288]⟩
abbrev S2x256x12288 : Shape := ⟨3, ![2, 256, 12288]⟩
abbrev S1x2048 : Shape := ⟨2, ![1, 2048]⟩
abbrev S512x2048 : Shape := ⟨2, ![512, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S512x512 : Shape := ⟨2, ![512, 512]⟩

abbrev nBuf : Space → Nat
  | .hbm => 25
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S2048, .f32⟩
  | .hbm, ⟨3, _⟩ => ⟨S1x12288, .f32⟩
  | .hbm, ⟨4, _⟩ => ⟨S16x12288, .f32⟩
  | .hbm, ⟨5, _⟩ => ⟨S2048x4096, .f32⟩
  | .hbm, ⟨6, _⟩ => ⟨S256x16x2048, .f32⟩
  | .hbm, ⟨7, _⟩ => ⟨S4096x2048, .f32⟩
  | .hbm, ⟨8, _⟩ => ⟨S2048x16x2048, .f32⟩
  | .hbm, ⟨9, _⟩ => ⟨S32768x2048, .f32⟩
  | .hbm, ⟨10, _⟩ => ⟨S36864x2048, .f32⟩
  | .hbm, ⟨11, _⟩ => ⟨S17x12288, .f32⟩
  | .hbm, ⟨12, _⟩ => ⟨S1x12288, .f32⟩
  | .hbm, ⟨13, _⟩ => ⟨S256x12288, .f32⟩
  | .hbm, ⟨14, _⟩ => ⟨S16x12288, .f32⟩
  | .hbm, ⟨15, _⟩ => ⟨S1x16x1x12288, .f32⟩
  | .hbm, ⟨16, _⟩ => ⟨S16x16x1x12288, .f32⟩
  | .hbm, ⟨17, _⟩ => ⟨S256x12288, .f32⟩
  | .hbm, ⟨18, _⟩ => ⟨S1x256x12288, .f32⟩
  | .hbm, ⟨19, _⟩ => ⟨S1x256x12288, .f32⟩
  | .hbm, ⟨20, _⟩ => ⟨S2x256x12288, .f32⟩
  | .hbm, ⟨21, _⟩ => ⟨S1x2048, .f32⟩
  | .hbm, ⟨22, _⟩ => ⟨S2048x4096, .bf16⟩
  | .hbm, ⟨23, _⟩ => ⟨S36864x2048, .bf16⟩
  | .hbm, ⟨24, _⟩ => ⟨S36864x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S2048x4096, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli arg0 c2_i32
  let c16_i32 : BitVec 32 := 16#32
  let v1 : BitVec 1 := Scalar.cmpi .slt v0 c16_i32
  let c0_i32 : BitVec 32 := 0#32
  let c1_i32 : BitVec 32 := 1#32
  let v2 : BitVec 32 := Scalar.select v1 c0_i32 c1_i32
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let c2_i32 : BitVec 32 := 2#32
  let v0 : BitVec 32 := Scalar.muli arg0 c2_i32
  let c16_i32 : BitVec 32 := 16#32
  let v1 : BitVec 1 := Scalar.cmpi .slt v0 c16_i32
  let c0_i32 : BitVec 32 := 0#32
  let c1_i32 : BitVec 32 := 1#32
  let v2 : BitVec 32 := Scalar.select v1 c0_i32 c1_i32
  let c0_i32_0 : BitVec 32 := 0#32
  let c1_i32_1 : BitVec 32 := 1#32
  let c0_i32_2 : BitVec 32 := 0#32
  ![v2.toNat, c0_i32_0.toNat, c1_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x256x2048 : Shape := ⟨3, ![16, 256, 2048]⟩
abbrev S16x2048x2048 : Shape := ⟨3, ![16, 2048, 2048]⟩
abbrev S2048 : Shape := ⟨1, ![2048]⟩
abbrev S1x12288 : Shape := ⟨2, ![1, 12288]⟩
abbrev S16x12288 : Shape := ⟨2, ![16, 12288]⟩
abbrev S2048x4096 : Shape := ⟨2, ![2048, 4096]⟩
abbrev S1x2048 : Shape := ⟨2, ![1, 2048]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S16x256x4096 : Shape := ⟨3, ![16, 256, 4096]⟩
abbrev S16x2048 : Shape := ⟨2, ![16, 2048]⟩
abbrev S16x1x2048 : Shape := ⟨3, ![16, 1, 2048]⟩
abbrev S16x2048x1 : Shape := ⟨3, ![16, 2048, 1]⟩
abbrev S16x2048x4096 : Shape := ⟨3, ![16, 2048, 4096]⟩
abbrev S16x2304x2048 : Shape := ⟨3, ![16, 2304, 2048]⟩
abbrev S2304x16x2048 : Shape := ⟨3, ![2304, 16, 2048]⟩
abbrev S36864x2048 : Shape := ⟨2, ![36864, 2048]⟩

abbrev nBuf : Space → Nat
  | .hbm => 124
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S2048, .f32⟩
  | .hbm, ⟨3, _⟩ => ⟨S1x12288, .f32⟩
  | .hbm, ⟨4, _⟩ => ⟨S16x12288, .f32⟩
  | .hbm, ⟨5, _⟩ => ⟨S2048x4096, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x1x2048, .f32⟩
  | .hbm, ⟨13, _⟩ => ⟨S1x1x2048, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S16x256x2048, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S16x256x1, .f32⟩
  | .hbm, ⟨29, _⟩ => ⟨S16x256x2048, .f32⟩
  | .hbm, ⟨30, _⟩ => ⟨S16x256x2048, .f32⟩
  | .hbm, ⟨31, _⟩ => ⟨S1x1x2048, .f32⟩
  | .hbm, ⟨32, _⟩ => ⟨S16x256x2048, .f32⟩
  | .hbm, ⟨33, _⟩ => ⟨S16x256x2048, .f32⟩
  | .hbm, ⟨34, _⟩ => ⟨S_, .f32⟩
  | .hbm, ⟨35, _⟩ => ⟨S1x1x2048, .f32⟩
  | .hbm, ⟨36, _⟩ => ⟨S1x1x2048, .f32⟩
  | .hbm, ⟨37, _⟩ => ⟨S16x256x2048, .f32⟩
  | .hbm, ⟨38, _⟩ => ⟨S16x256x2048, .f32⟩
  | .hbm, ⟨39, _⟩ => ⟨S16x256x2048, .f32⟩
  | .hbm, ⟨40, _⟩ => ⟨S16x256x2048, .f32⟩
  | .hbm, ⟨41, _⟩ => ⟨S16x256x4096, .f32⟩
  | .hbm, ⟨42, _⟩ => ⟨S16x256x2048, .f32⟩
  | .hbm, ⟨43, _⟩ => ⟨S16x256x2048, .f32⟩
  | .hbm, ⟨44, _⟩ => ⟨S16x256x2048, .f32⟩
  | .hbm, ⟨45, _⟩ => ⟨S16x256x2048, .f32⟩
  | .hbm, ⟨46, _⟩ => ⟨S_, .f32⟩
  | .hbm, ⟨47, _⟩ => ⟨S16x256x2048, .f32⟩
  | .hbm, ⟨48, _⟩ => ⟨S16x256x2048, .f32⟩
  | .hbm, ⟨49, _⟩ => ⟨S16x256x2048, .f32⟩
  | .hbm, ⟨50, _⟩ => ⟨S_, .f32⟩
  | .hbm, ⟨51, _⟩ => ⟨S16x256x2048, .f32⟩
  | .hbm, ⟨52, _⟩ => ⟨S16x256x2048, .f32⟩
  | .hbm, ⟨53, _⟩ => ⟨S16x256x2048, .f32⟩
  | .hbm, ⟨54, _⟩ => ⟨S_, .f32⟩
  | .hbm, ⟨55, _⟩ => ⟨S16x256x2048, .f32⟩
  | .hbm, ⟨56, _⟩ => ⟨S16x256x2048, .f32⟩
  | .hbm, ⟨57, _⟩ => ⟨S_, .f32⟩
  | .hbm, ⟨58, _⟩ => ⟨S16x256x2048, .f32⟩
  | .hbm, ⟨59, _⟩ => ⟨S16x256x2048, .f32⟩
  | .hbm, ⟨60, _⟩ => ⟨S16x256x2048, .f32⟩
  | .hbm, ⟨61, _⟩ => ⟨S16x2048, .f32⟩
  | .hbm, ⟨62, _⟩ => ⟨S16x2048, .f32⟩
  | .hbm, ⟨63, _⟩ => ⟨S16x2048, .f32⟩
  | .hbm, ⟨64, _⟩ => ⟨S16x2048, .f32⟩
  | .hbm, ⟨65, _⟩ => ⟨S16x2048, .f32⟩
  | .hbm, ⟨66, _⟩ => ⟨S16x2048, .f32⟩
  | .hbm, ⟨67, _⟩ => ⟨S16x1x2048, .f32⟩
  | .hbm, ⟨68, _⟩ => ⟨S16x1x2048, .f32⟩
  | .hbm, ⟨69, _⟩ => ⟨S16x1x2048, .f32⟩
  | .hbm, ⟨70, _⟩ => ⟨S16x1x2048, .f32⟩
  | .hbm, ⟨71, _⟩ => ⟨S16x1x2048, .f32⟩
  | .hbm, ⟨72, _⟩ => ⟨S16x1x2048, .f32⟩
  | .hbm, ⟨73, _⟩ => ⟨S16x2048x2048, .f32⟩
  | .hbm, ⟨74, _⟩ => ⟨S_, .f32⟩
  | .hbm, ⟨75, _⟩ => ⟨S16x2048, .f32⟩
  | .hbm, ⟨76, _⟩ => ⟨S16x2048x1, .f32⟩
  | .hbm, ⟨77, _⟩ => ⟨S_, .f32⟩
  | .hbm, ⟨78, _⟩ => ⟨S16x2048x1, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S16x2048x1, .f32⟩
  | .hbm, ⟨84, _⟩ => ⟨S16x2048x2048, .f32⟩
  | .hbm, ⟨85, _⟩ => ⟨S16x2048x2048, .f32⟩
  | .hbm, ⟨86, _⟩ => ⟨S1x1x2048, .f32⟩
  | .hbm, ⟨87, _⟩ => ⟨S16x2048x2048, .f32⟩
  | .hbm, ⟨88, _⟩ => ⟨S16x2048x2048, .f32⟩
  | .hbm, ⟨89, _⟩ => ⟨S_, .f32⟩
  | .hbm, ⟨90, _⟩ => ⟨S16x1x2048, .f32⟩
  | .hbm, ⟨91, _⟩ => ⟨S16x1x2048, .f32⟩
  | .hbm, ⟨92, _⟩ => ⟨S16x2048x2048, .f32⟩
  | .hbm, ⟨93, _⟩ => ⟨S16x2048x2048, .f32⟩
  | .hbm, ⟨94, _⟩ => ⟨S16x2048x2048, .f32⟩
  | .hbm, ⟨95, _⟩ => ⟨S16x2048x2048, .f32⟩
  | .hbm, ⟨96, _⟩ => ⟨S16x2048x4096, .f32⟩
  | .hbm, ⟨97, _⟩ => ⟨S16x2048x2048, .f32⟩
  | .hbm, ⟨98, _⟩ => ⟨S16x2048x2048, .f32⟩
  | .hbm, ⟨99, _⟩ => ⟨S16x2048x2048, .f32⟩
  | .hbm, ⟨100, _⟩ => ⟨S16x2048x2048, .f32⟩
  | .hbm, ⟨101, _⟩ => ⟨S_, .f32⟩
  | .hbm, ⟨102, _⟩ => ⟨S16x2048x2048, .f32⟩
  | .hbm, ⟨103, _⟩ => ⟨S16x2048x2048, .f32⟩
  | .hbm, ⟨104, _⟩ => ⟨S16x2048x2048, .f32⟩
  | .hbm, ⟨105, _⟩ => ⟨S_, .f32⟩
  | .hbm, ⟨106, _⟩ => ⟨S16x2048x2048, .f32⟩
  | .hbm, ⟨107, _⟩ => ⟨S16x2048x2048, .f32⟩
  | .hbm, ⟨108, _⟩ => ⟨S16x2048x2048, .f32⟩
  | .hbm, ⟨109, _⟩ => ⟨S_, .f32⟩
  | .hbm, ⟨110, _⟩ => ⟨S16x2048x2048, .f32⟩
  | .hbm, ⟨111, _⟩ => ⟨S16x2048x2048, .f32⟩
  | .hbm, ⟨112, _⟩ => ⟨S_, .f32⟩
  | .hbm, ⟨113, _⟩ => ⟨S16x2048x2048, .f32⟩
  | .hbm, ⟨114, _⟩ => ⟨S16x2048x2048, .f32⟩
  | .hbm, ⟨115, _⟩ => ⟨S16x2048x2048, .f32⟩
  | .hbm, ⟨116, _⟩ => ⟨S16x2304x2048, .f32⟩
  | .hbm, ⟨117, _⟩ => ⟨S2304x16x2048, .f32⟩
  | .hbm, ⟨118, _⟩ => ⟨S36864x2048, .f32⟩
  | .hbm, ⟨119, _⟩ => ⟨S36864x2048, .bf16⟩
  | .hbm, ⟨120, _⟩ => ⟨S16x2304x2048, .f32⟩
  | .hbm, ⟨121, _⟩ => ⟨S2304x16x2048, .f32⟩
  | .hbm, ⟨122, _⟩ => ⟨S36864x2048, .f32⟩
  | .hbm, ⟨123, _⟩ => ⟨S36864x2048, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_12 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_cst_14 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩

abbrev nD : Nat := 1
abbrev τ : Topo := Topo.v7x

variable {F : FTy → Type} [FloatOps F]
-- ==== Proof.RgHead.lean ====
/-
  One head (256 channels) of one grid point of the forward recurrence call, written once: the short convolution, the two
  gates, the decay, the input term, and the sixteen recurrence steps over the block's sixteen positions. The printed body
  repeats this text for each of the eight heads; `RgBlock.lean` shows that each repetition is this text.
-/
module

public import proofs.«01_k».proof.Proof.Gen.KernelIdeal.Frame

@[expose] public section

noncomputable section
namespace Cert.Proof.Rg
open Cert.KernelIdeal Cert.KernelIdeal.Gen Idealize.ShloMosaic Idealize.ShloMosaic.TcCoe
variable {F : FTy → Type} [FloatOps F]

/-- The rows the convolution of a block reads: two positions before it, the block, one position after it; the neighbours
    times a flag that is zero where the stream begins or ends. -/
def extRows (kp kn : F .f32) (cur : Vec F S256x256 .bf16) (prv : Vec F S32x256 .bf16) (nxt : Vec F S16x256 .bf16) :
    FVec F S304x256 .f32 :=
  concatenate S304x256 0
    [⟨S32x256, mulf (extf .f32 (shapeCast S32x256 prv shapeCasts_S32x256_S32x256) bitsLt_bf16_f32) (broadcast S32x256 kp)⟩,
     ⟨S256x256, extf .f32 (shapeCast S256x256 cur shapeCasts_S256x256_S256x256) bitsLt_bf16_f32⟩,
     ⟨S16x256, mulf (extf .f32 (shapeCast S16x256 nxt shapeCasts_S16x256_S16x256) bitsLt_bf16_f32) (broadcast S16x256 kn)⟩]
    concatenates_S32x256_S256x256_S16x256_S304x256_d0

/-- The convolution: the bias and the four taps. -/
def convRows (x : FVec F S304x256 .f32) (cb w0 w1 w2 w3 : Vec F S1x256 .f32) : FVec F S256x256 .f32 :=
  addf (addf (addf (addf (broadcastTo S256x256 (shapeCast S1x256 cb shapeCasts_S1x256_S1x256) broadcasts_S1x256_S256x256)
    (mulf (broadcastTo S256x256 w0 broadcasts_S1x256_S256x256) (extractStridedSlice S256x256 ![0, 0] x slices_S304x256_o0_0_S256x256)))
    (mulf (broadcastTo S256x256 w1 broadcasts_S1x256_S256x256) (extractStridedSlice S256x256 ![16, 0] x slices_S304x256_o16_0_S256x256)))
    (mulf (broadcastTo S256x256 w2 broadcasts_S1x256_S256x256) (extractStridedSlice S256x256 ![32, 0] x slices_S304x256_o32_0_S256x256)))
    (mulf (broadcastTo S256x256 w3 broadcasts_S1x256_S256x256) (extractStridedSlice S256x256 ![48, 0] x slices_S304x256_o48_0_S256x256))

/-- A gate's argument: the head's own 256 by 256 map of the convolved rows, and the bias. -/
def gateRows (u : FVec F S256x256 .f32) (w : Vec F S1x256x256 .bf16) (b : Vec F S1x256 .f32) : FVec F S256x256 .f32 :=
  addf (matmul dot_S256x256_S256x256_S256x256_1_0_0_1_n_n none (truncf .bf16 u bitsLt_bf16_f32)
      (shapeCast S256x256 w shapeCasts_S1x256x256_S256x256) (constant S256x256 .f32 0x00000000#32))
    (broadcastTo S256x256 (shapeCast S1x256 b shapeCasts_S1x256_S1x256) broadcasts_S1x256_S256x256)

/-- The logarithm of the decay. -/
def logRows (ra : FVec F S256x256 .f32) (lam : Vec F S1x256 .f32) : FVec F S256x256 .f32 :=
  mulf (mulf (broadcast S256x256 (Scalar.ofBits .f32 0x41000000#32)) (logistic ra))
    (broadcastTo S256x256
      (subf (minimumf (shapeCast S1x256 lam shapeCasts_S1x256_S1x256) (broadcast S1x256 (Scalar.ofBits .f32 0x00000000#32)))
        (log1p (exp (subf (broadcast S1x256 (Scalar.ofBits .f32 0x00000000#32)) (absf (shapeCast S1x256 lam shapeCasts_S1x256_S1x256))))))
      broadcasts_S1x256_S256x256)

/-- The input term of the recurrence. -/
def inRows (la ri u : FVec F S256x256 .f32) : FVec F S256x256 .f32 :=
  mulf (sqrt (mulf (subf (broadcast S256x256 (Scalar.ofBits .f32 0xBF800000#32)) (mulf (exp la) (exp la))) (tanh la)))
    (mulf (logistic ri) u)

/-- Sixteen consecutive rows of a block starting at a multiple of sixteen lie inside it. -/
theorem slices16 (k : ℕ) (h : k < 16) : S256x256.Slices ![16 * k, 0] S16x256 := by
  revert k; decide

/-- The state after the first `k` positions of the block, from the state before it. -/
def stRows (a b : FVec F S256x256 .f32) (s : FVec F S16x256 .f32) : (k : ℕ) → k ≤ 16 → FVec F S16x256 .f32
  | 0, _ => s
  | k + 1, h => addf (mulf (extractStridedSlice S16x256 ![16 * k, 0] a (slices16 k h)) (stRows a b s k (Nat.le_of_succ_le h)))
      (extractStridedSlice S16x256 ![16 * k, 0] b (slices16 k h))

/-- The block's output rows: the sixteen states one below the other, in the storage type. -/
def outRows (a b : FVec F S256x256 .f32) (s : FVec F S16x256 .f32) : FVec F S256x256 .bf16 :=
  truncf .bf16 (concatenate S256x256 0
    [⟨S16x256, stRows a b s 1 (by decide)⟩, ⟨S16x256, stRows a b s 2 (by decide)⟩, ⟨S16x256, stRows a b s 3 (by decide)⟩,
     ⟨S16x256, stRows a b s 4 (by decide)⟩, ⟨S16x256, stRows a b s 5 (by decide)⟩, ⟨S16x256, stRows a b s 6 (by decide)⟩,
     ⟨S16x256, stRows a b s 7 (by decide)⟩, ⟨S16x256, stRows a b s 8 (by decide)⟩, ⟨S16x256, stRows a b s 9 (by decide)⟩,
     ⟨S16x256, stRows a b s 10 (by decide)⟩, ⟨S16x256, stRows a b s 11 (by decide)⟩, ⟨S16x256, stRows a b s 12 (by decide)⟩,
     ⟨S16x256, stRows a b s 13 (by decide)⟩, ⟨S16x256, stRows a b s 14 (by decide)⟩, ⟨S16x256, stRows a b s 15 (by decide)⟩,
     ⟨S16x256, stRows a b s 16 (by decide)⟩]
    concatenates_S16x256_S16x256_S16x256_S16x256_S16x256_S16x256_S16x256_S16x256_S16x256_S16x256_S16x256_S16x256_S16x256_S16x256_S16x256_S16x256_S256x256_d0)
    bitsLt_bf16_f32

end Cert.Proof.Rg
end
-- ==== Proof.RgBlock.lean ====
/-
  What the body leaves at one grid point: each head's sixteen recurrence steps (`RgHead.lean`), in the eight column blocks of
  the output block and of the carried state; from the carried state where the point is not the first, from zero where it is.
-/
module

public import proofs.«01_k».proof.Proof.RgHead
public import Idealize.ShloMosaic.Lib.Pipeline.Value
public import Idealize.ShloMosaic.Lib.Pipeline.ValueKit
public import Idealize.ShloMosaic.Lib.Pipeline.ReadBack

@[expose] public section

set_option maxRecDepth 16384
noncomputable section
namespace Cert.Proof.Rg
open Cert.KernelIdeal Cert.KernelIdeal.Gen Idealize.ShloMosaic Idealize.ShloMosaic.TcCoe Idealize.SL.Sem
variable {F : FTy → Type} [FloatOps F]

/-- A block of `R` rows and 256 columns at column `256 h` lies inside a block of 2048 columns. -/
theorem inbCols {R r o : ℕ} (hr : o + r ≤ R) (h : ℕ) (hh : h < 8) :
    ∀ a, (![o, 256 * h] : Fin 2 → ℕ) a + (⟨2, ![r, 256]⟩ : Shape).size a ≤ (⟨2, ![R, 2048]⟩ : Shape).size a := by
  intro a
  match a with
  | ⟨0, _⟩ => exact hr
  | ⟨1, _⟩ => show 256 * h + 256 ≤ 2048; omega

/-- A head's gate matrix lies inside the eight of them. -/
theorem inbGate (h : ℕ) (hh : h < 8) :
    ∀ a, (![h, 0, 0] : Fin 3 → ℕ) a + S1x256x256.size a ≤ S8x256x256.size a := by
  intro a
  match a with
  | ⟨0, _⟩ => show h + 1 ≤ 8; omega
  | ⟨1, _⟩ => exact Nat.le_refl _
  | ⟨2, _⟩ => exact Nat.le_refl _

/-- The `r` rows from row `o` of head `h`'s columns. -/
def cols {R : ℕ} {e : EltTy} (r o : ℕ) (hr : o + r ≤ R) (x : Vec F ⟨2, ![R, 2048]⟩ e) (h : ℕ) (hh : h < 8) :
    Vec F ⟨2, ![r, 256]⟩ e :=
  View.ld x (Rect.unit ![o, 256 * h] (⟨2, ![r, 256]⟩ : Shape).size (inbCols hr h hh))

/-- Head `h`'s gate matrix. -/
def gateMat {e : EltTy} (x : Vec F S8x256x256 e) (h : ℕ) (hh : h < 8) : Vec F S1x256x256 e :=
  View.ld x (Rect.unit ![h, 0, 0] S1x256x256.size (inbGate h hh))

section
variable (kp kn : F .f32)
  (x0 : Vec F S256x2048 .bf16) (x1 : Vec F S32x2048 .bf16) (x2 : Vec F S16x2048 .bf16) (x3 : Vec F S4x2048 .f32)
  (x4 : Vec F S1x2048 .f32) (x5 : Vec F S8x256x256 .bf16) (x6 : Vec F S8x256x256 .bf16) (x7 : Vec F S1x2048 .f32)
  (x8 : Vec F S1x2048 .f32) (x9 : Vec F S1x2048 .f32) (h : ℕ) (hh : h < 8)

/-- Head `h`'s convolved rows, from the blocks the point reads. -/
def uBlk : FVec F S256x256 .f32 :=
  convRows (extRows kp kn (cols 256 0 (Nat.le_refl _) x0 h hh) (cols 32 0 (Nat.le_refl _) x1 h hh) (cols 16 0 (Nat.le_refl _) x2 h hh))
    (cols 1 0 (Nat.le_refl _) x4 h hh)
    (cols 1 0 (by decide) x3 h hh) (cols 1 1 (by decide) x3 h hh) (cols 1 2 (by decide) x3 h hh) (cols 1 3 (by decide) x3 h hh)

/-- Head `h`'s logarithms of the decays. -/
def laBlk : FVec F S256x256 .f32 :=
  logRows (gateRows (uBlk kp kn x0 x1 x2 x3 x4 h hh) (gateMat x5 h hh) (cols 1 0 (Nat.le_refl _) x7 h hh)) (cols 1 0 (Nat.le_refl _) x9 h hh)

/-- Head `h`'s input terms. -/
def bBlk : FVec F S256x256 .f32 :=
  inRows (laBlk kp kn x0 x1 x2 x3 x4 x5 x7 x9 h hh)
    (gateRows (uBlk kp kn x0 x1 x2 x3 x4 h hh) (gateMat x6 h hh) (cols 1 0 (Nat.le_refl _) x8 h hh)) (uBlk kp kn x0 x1 x2 x3 x4 h hh)

/-- Head `h`'s state after the block's sixteen positions, from the state `s` before it. -/
def stBlk (s : FVec F S16x256 .f32) : FVec F S16x256 .f32 :=
  shapeCast S16x256
    (stRows (exp (laBlk kp kn x0 x1 x2 x3 x4 x5 x7 x9 h hh)) (bBlk kp kn x0 x1 x2 x3 x4 x5 x6 x7 x8 x9 h hh) s 16 (Nat.le_refl _))
    shapeCasts_S16x256_S16x256

/-- Head `h`'s output rows, from the state `s` before the block. -/
def outBlk (s : FVec F S16x256 .f32) : FVec F S256x256 .bf16 :=
  outRows (exp (laBlk kp kn x0 x1 x2 x3 x4 x5 x7 x9 h hh)) (bBlk kp kn x0 x1 x2 x3 x4 x5 x6 x7 x8 x9 h hh) s
end

/-- The column of a head's block a column of the whole lies in. -/
def headOf (y : Fin 2048) : ℕ := y.val / 256
/-- A channel's head is one of eight. -/
theorem headOf_lt (y : Fin 2048) : headOf y < 8 := by unfold headOf; omega

/-- Eight column blocks of `R` rows, joined into one block of 2048 columns. -/
def joinCols {R : ℕ} {α : Type} (f : (h : ℕ) → h < 8 → (⟨2, ![R, 256]⟩ : Shape).Idx → α) (y : (⟨2, ![R, 2048]⟩ : Shape).Idx) : α :=
  f (headOf (y 1)) (headOf_lt _) (ix2 (n0 := R) (y 0) (⟨(y 1).val % 256, Nat.mod_lt _ (by decide)⟩ : Fin 256))

/-- The joined block, under an index of column block `h`, is that block. -/
theorem joinCols_at {R : ℕ} {α : Type} (f : (h : ℕ) → h < 8 → (⟨2, ![R, 256]⟩ : Shape).Idx → α) (h : ℕ) (hh : h < 8)
    (inb : ∀ a, (![0, 256 * h] : Fin 2 → ℕ) a + (⟨2, ![R, 256]⟩ : Shape).size a ≤ (⟨2, ![R, 2048]⟩ : Shape).size a)
    (x : (⟨2, ![R, 256]⟩ : Shape).Idx) :
    joinCols f ((Rect.unit (s := ⟨2, ![R, 2048]⟩) ![0, 256 * h] (⟨2, ![R, 256]⟩ : Shape).size inb).idx x) = f h hh x := by
  have h1 : (x 1).val < 256 := (x 1).isLt
  have e1 : (((Rect.unit (s := ⟨2, ![R, 2048]⟩) ![0, 256 * h] (⟨2, ![R, 256]⟩ : Shape).size inb).idx x) 1).val = 256 * h + (x 1).val := by
    show 256 * h + 1 * (x 1).val = _; omega
  have e0 : (((Rect.unit (s := ⟨2, ![R, 2048]⟩) ![0, 256 * h] (⟨2, ![R, 256]⟩ : Shape).size inb).idx x) 0).val = (x 0).val := by
    show 0 + 1 * (x 0).val = _; omega
  have eh : headOf (((Rect.unit (s := ⟨2, ![R, 2048]⟩) ![0, 256 * h] (⟨2, ![R, 256]⟩ : Shape).size inb).idx x) 1) = h := by
    unfold headOf; rw [e1]; omega
  have key : ∀ (h' : ℕ) (hh' : h' < 8) (j : (⟨2, ![R, 256]⟩ : Shape).Idx), h' = h → j = x → f h' hh' j = f h hh x := by
    rintro _ _ _ rfl rfl; rfl
  refine key _ _ _ eh (funext fun a => ?_)
  match a with
  | ⟨0, _⟩ => exact Fin.ext e0
  | ⟨1, _⟩ => refine Fin.ext ?_; show (((Rect.unit (s := ⟨2, ![R, 2048]⟩) _ _ inb).idx x) 1).val % 256 = (x 1).val; rw [e1]; omega

/-- What the first point stores in the carried state before anything else is zero. -/
theorem fill_zero : (k0_pay3 : FVec F S16x2048 .f32) = broadcast S16x2048 (FloatOps.ofBits .f32 0x00000000#32) :=
  shapeCast_self _ _

/-- A block of a constant is that constant. -/
theorem ld_const {s : Shape} {e : EltTy} (z : Elt F e) (r : Rect s) :
    View.ld (Val := Elt F) (e' := e) (broadcast s z) r = broadcast r.shape z := rfl

/-- A list of stores whose first part covers an index and agrees with `G` there leaves `G` there, whatever comes before it. -/
theorem canon_front {Val : EltTy → Type} {S : Shape} {e : EltTy} [∀ e, Nonempty (Val e)] (G : S.Idx → Val e) (y : S.Idx)
    (L L' : List (View.Piece Val S e)) (hL : ∀ p ∈ L, ∀ x : p.1.shape.Idx, p.2 x = G (p.1.emb x)) (hc : ∃ p ∈ L, y ∈ p.1.set) :
    View.canon (L ++ L') y = G y := by
  induction L with
  | nil => obtain ⟨p, hp, _⟩ := hc; exact absurd hp List.not_mem_nil
  | cons p L ih =>
    rw [List.cons_append]
    by_cases hm : y ∈ p.1.set
    · obtain ⟨x, rfl⟩ := p.1.exists_idx_of_mem hm
      rw [show p.1.idx x = p.1.emb x from rfl, View.canon_cons_emb]
      exact hL p List.mem_cons_self x
    · rw [View.canon_cons_of_not_mem _ _ hm]
      refine ih (fun q hq => hL q (List.mem_cons_of_mem _ hq)) ?_
      obtain ⟨q, hq, hyq⟩ := hc
      rcases List.mem_cons.mp hq with rfl | hq'
      · exact absurd hyq hm
      · exact ⟨q, hq', hyq⟩

set_option maxHeartbeats 4000000 in
/-- The carried state after a point that is not the first. -/
theorem sout0_B_0_eq (c : Dev nD) (i : grid0.Coords) (arg1 : Memref sig .tc .vmem S256x2048 .bf16) (harg1 : arg1.IsWhole) (arg2 : Memref sig .tc .vmem S32x2048 .bf16) (harg2 : arg2.IsWhole) (arg3 : Memref sig .tc .vmem S16x2048 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S8x256x256 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S16x2048 .f32) (harg12 : arg12.IsWhole) (hc0 : ¬cond0_0 i)
    (x0 : Vec F S256x2048 .bf16) (x1 : Vec F S32x2048 .bf16) (x2 : Vec F S16x2048 .bf16) (x3 : Vec F S4x2048 .f32) (x4 : Vec F S1x2048 .f32) (x5 : Vec F S8x256x256 .bf16) (x6 : Vec F S8x256x256 .bf16) (x7 : Vec F S1x2048 .f32) (x8 : Vec F S1x2048 .f32) (x9 : Vec F S1x2048 .f32) (xs0 : Vec F S16x2048 .f32) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 =
      joinCols (fun h hh => stBlk (k0_pay4 i) (k0_pay5 i) x0 x1 x2 x3 x4 x5 x6 x7 x8 x9 h hh (cols 16 0 (Nat.le_refl _) xs0 h hh)) := by
  frame_open
  simp (disch := decide) only [↓ View.readCov_skip, ↓ View.readCov_cons_toLoadRect, ↓ View.readCov_fill, View.readAt_eq_ld, Memref.IsWhole.read_unread]
  refine funext fun y => (congrFun (View.read_writes_junk_eq_canon _ _) y).trans (View.canon_apply_of_pieces _ _ ?_ y ?_)
  case refine_2 => exact View.cover_of_tiledL (s := S16x2048) _ S16x256.size (by sl_kernel_rfl) y
  simp only [List.forall_mem_cons]
  refine ⟨fun x => Eq.trans (congrFun ?_ x) (joinCols_at _ 7 (by decide) _ x).symm,
    fun x => Eq.trans (congrFun ?_ x) (joinCols_at _ 6 (by decide) _ x).symm,
    fun x => Eq.trans (congrFun ?_ x) (joinCols_at _ 5 (by decide) _ x).symm,
    fun x => Eq.trans (congrFun ?_ x) (joinCols_at _ 4 (by decide) _ x).symm,
    fun x => Eq.trans (congrFun ?_ x) (joinCols_at _ 3 (by decide) _ x).symm,
    fun x => Eq.trans (congrFun ?_ x) (joinCols_at _ 2 (by decide) _ x).symm,
    fun x => Eq.trans (congrFun ?_ x) (joinCols_at _ 1 (by decide) _ x).symm,
    fun x => Eq.trans (congrFun ?_ x) (joinCols_at _ 0 (by decide) _ x).symm, by simp⟩
  all_goals
    unfold_payloads
    dsimp only [outBlk, outRows, stBlk, stRows, bBlk, laBlk, uBlk, inRows, logRows, gateRows, convRows, extRows, cols, gateMat,
      k0_pay4, k0_pay5, Scalar.ofBits, Nat.reduceMul]

set_option maxHeartbeats 4000000 in
/-- The output block after a point that is not the first. -/
theorem out0_B_10_eq (c : Dev nD) (i : grid0.Coords) (arg1 : Memref sig .tc .vmem S256x2048 .bf16) (harg1 : arg1.IsWhole) (arg2 : Memref sig .tc .vmem S32x2048 .bf16) (harg2 : arg2.IsWhole) (arg3 : Memref sig .tc .vmem S16x2048 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S8x256x256 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S16x2048 .f32) (harg12 : arg12.IsWhole) (hc0 : ¬cond0_0 i)
    (x0 : Vec F S256x2048 .bf16) (x1 : Vec F S32x2048 .bf16) (x2 : Vec F S16x2048 .bf16) (x3 : Vec F S4x2048 .f32) (x4 : Vec F S1x2048 .f32) (x5 : Vec F S8x256x256 .bf16) (x6 : Vec F S8x256x256 .bf16) (x7 : Vec F S1x2048 .f32) (x8 : Vec F S1x2048 .f32) (x9 : Vec F S1x2048 .f32) (xs0 : Vec F S16x2048 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 =
      joinCols (fun h hh => outBlk (k0_pay4 i) (k0_pay5 i) x0 x1 x2 x3 x4 x5 x6 x7 x8 x9 h hh (cols 16 0 (Nat.le_refl _) xs0 h hh)) := by
  frame_open
  simp (disch := decide) only [↓ View.readCov_skip, ↓ View.readCov_cons_toLoadRect, ↓ View.readCov_fill, View.readAt_eq_ld, Memref.IsWhole.read_unread]
  refine funext fun y => (congrFun (View.read_writes_junk_eq_canon _ _) y).trans (View.canon_apply_of_pieces _ _ ?_ y ?_)
  case refine_2 => exact View.cover_of_tiledL (s := S256x2048) _ S256x256.size (by sl_kernel_rfl) y
  simp only [List.forall_mem_cons]
  refine ⟨fun x => Eq.trans (congrFun ?_ x) (joinCols_at _ 7 (by decide) _ x).symm,
    fun x => Eq.trans (congrFun ?_ x) (joinCols_at _ 6 (by decide) _ x).symm,
    fun x => Eq.trans (congrFun ?_ x) (joinCols_at _ 5 (by decide) _ x).symm,
    fun x => Eq.trans (congrFun ?_ x) (joinCols_at _ 4 (by decide) _ x).symm,
    fun x => Eq.trans (congrFun ?_ x) (joinCols_at _ 3 (by decide) _ x).symm,
    fun x => Eq.trans (congrFun ?_ x) (joinCols_at _ 2 (by decide) _ x).symm,
    fun x => Eq.trans (congrFun ?_ x) (joinCols_at _ 1 (by decide) _ x).symm,
    fun x => Eq.trans (congrFun ?_ x) (joinCols_at _ 0 (by decide) _ x).symm, by simp⟩
  all_goals
    unfold_payloads
    dsimp only [outBlk, outRows, stBlk, stRows, bBlk, laBlk, uBlk, inRows, logRows, gateRows, convRows, extRows, cols, gateMat,
      k0_pay4, k0_pay5, Scalar.ofBits, Nat.reduceMul]

set_option maxHeartbeats 4000000 in
/-- The carried state after the first point: the recurrence starts from zero. -/
theorem sout0_A_0_eq (c : Dev nD) (i : grid0.Coords) (arg1 : Memref sig .tc .vmem S256x2048 .bf16) (harg1 : arg1.IsWhole) (arg2 : Memref sig .tc .vmem S32x2048 .bf16) (harg2 : arg2.IsWhole) (arg3 : Memref sig .tc .vmem S16x2048 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S8x256x256 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S16x2048 .f32) (harg12 : arg12.IsWhole) (hc0 : cond0_0 i)
    (x0 : Vec F S256x2048 .bf16) (x1 : Vec F S32x2048 .bf16) (x2 : Vec F S16x2048 .bf16) (x3 : Vec F S4x2048 .f32) (x4 : Vec F S1x2048 .f32) (x5 : Vec F S8x256x256 .bf16) (x6 : Vec F S8x256x256 .bf16) (x7 : Vec F S1x2048 .f32) (x8 : Vec F S1x2048 .f32) (x9 : Vec F S1x2048 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 =
      joinCols (fun h hh => stBlk (k0_pay4 i) (k0_pay5 i) x0 x1 x2 x3 x4 x5 x6 x7 x8 x9 h hh (broadcast S16x256 (FloatOps.ofBits .f32 0x00000000#32))) := by
  frame_open
  simp (disch := decide) only [↓ View.readCov_skip, ↓ View.readCov_cons_toLoadRect, ↓ View.readCov_fill, View.readAt_eq_ld, Memref.IsWhole.read_unread]
  refine funext fun y => (congrFun (View.read_writes_junk_eq_canon _ _) y).trans (canon_front _ y [_, _, _, _, _, _, _, _] [_] ?_ ?_)
  case refine_2 => exact View.cover_of_tiledL (s := S16x2048) _ S16x256.size (by sl_kernel_rfl) y
  simp only [List.forall_mem_cons]
  refine ⟨fun x => Eq.trans (congrFun ?_ x) (joinCols_at _ 7 (by decide) _ x).symm,
    fun x => Eq.trans (congrFun ?_ x) (joinCols_at _ 6 (by decide) _ x).symm,
    fun x => Eq.trans (congrFun ?_ x) (joinCols_at _ 5 (by decide) _ x).symm,
    fun x => Eq.trans (congrFun ?_ x) (joinCols_at _ 4 (by decide) _ x).symm,
    fun x => Eq.trans (congrFun ?_ x) (joinCols_at _ 3 (by decide) _ x).symm,
    fun x => Eq.trans (congrFun ?_ x) (joinCols_at _ 2 (by decide) _ x).symm,
    fun x => Eq.trans (congrFun ?_ x) (joinCols_at _ 1 (by decide) _ x).symm,
    fun x => Eq.trans (congrFun ?_ x) (joinCols_at _ 0 (by decide) _ x).symm, by simp⟩
  all_goals
    simp only [fill_zero, ld_const]
    unfold_payloads
    dsimp only [outBlk, outRows, stBlk, stRows, bBlk, laBlk, uBlk, inRows, logRows, gateRows, convRows, extRows, cols, gateMat,
      k0_pay4, k0_pay5, Scalar.ofBits, Nat.reduceMul]
    rfl

set_option maxHeartbeats 4000000 in
/-- The output block after the first point. -/
theorem out0_A_10_eq (c : Dev nD) (i : grid0.Coords) (arg1 : Memref sig .tc .vmem S256x2048 .bf16) (harg1 : arg1.IsWhole) (arg2 : Memref sig .tc .vmem S32x2048 .bf16) (harg2 : arg2.IsWhole) (arg3 : Memref sig .tc .vmem S16x2048 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S8x256x256 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S16x2048 .f32) (harg12 : arg12.IsWhole) (hc0 : cond0_0 i)
    (x0 : Vec F S256x2048 .bf16) (x1 : Vec F S32x2048 .bf16) (x2 : Vec F S16x2048 .bf16) (x3 : Vec F S4x2048 .f32) (x4 : Vec F S1x2048 .f32) (x5 : Vec F S8x256x256 .bf16) (x6 : Vec F S8x256x256 .bf16) (x7 : Vec F S1x2048 .f32) (x8 : Vec F S1x2048 .f32) (x9 : Vec F S1x2048 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 =
      joinCols (fun h hh => outBlk (k0_pay4 i) (k0_pay5 i) x0 x1 x2 x3 x4 x5 x6 x7 x8 x9 h hh (broadcast S16x256 (FloatOps.ofBits .f32 0x00000000#32))) := by
  frame_open
  simp (disch := decide) only [↓ View.readCov_skip, ↓ View.readCov_cons_toLoadRect, ↓ View.readCov_fill, View.readAt_eq_ld, Memref.IsWhole.read_unread]
  refine funext fun y => (congrFun (View.read_writes_junk_eq_canon _ _) y).trans (View.canon_apply_of_pieces _ _ ?_ y ?_)
  case refine_2 => exact View.cover_of_tiledL (s := S256x2048) _ S256x256.size (by sl_kernel_rfl) y
  simp only [List.forall_mem_cons]
  refine ⟨fun x => Eq.trans (congrFun ?_ x) (joinCols_at _ 7 (by decide) _ x).symm,
    fun x => Eq.trans (congrFun ?_ x) (joinCols_at _ 6 (by decide) _ x).symm,
    fun x => Eq.trans (congrFun ?_ x) (joinCols_at _ 5 (by decide) _ x).symm,
    fun x => Eq.trans (congrFun ?_ x) (joinCols_at _ 4 (by decide) _ x).symm,
    fun x => Eq.trans (congrFun ?_ x) (joinCols_at _ 3 (by decide) _ x).symm,
    fun x => Eq.trans (congrFun ?_ x) (joinCols_at _ 2 (by decide) _ x).symm,
    fun x => Eq.trans (congrFun ?_ x) (joinCols_at _ 1 (by decide) _ x).symm,
    fun x => Eq.trans (congrFun ?_ x) (joinCols_at _ 0 (by decide) _ x).symm, by simp⟩
  all_goals
    simp only [fill_zero, ld_const]
    unfold_payloads
    dsimp only [outBlk, outRows, stBlk, stRows, bBlk, laBlk, uBlk, inRows, logRows, gateRows, convRows, extRows, cols, gateMat,
      k0_pay4, k0_pay5, Scalar.ofBits, Nat.reduceMul]
    rfl

end Cert.Proof.Rg
end
-- ==== Proof.RgMath.lean ====
/-
  The mathematics of the gated linear recurrence over extended reals: the recurrence itself as a function of position, batch
  row and channel, and the three identities between the forms the kernel and the reference compute it by.
-/
module

public import Idealize.ShloMosaic.PureOps.Ideal
public import Mathlib.Analysis.SpecialFunctions.Trigonometric.DerivHyp

@[expose] public section

noncomputable section
namespace Cert.Proof.Rg
open Idealize.ShloMosaic

/-- The larger of two reals, as an extended real. -/
theorem coe_max (a b : ℝ) : ((max a b : ℝ) : EReal) = max (a : EReal) b := EReal.coe_strictMono.monotone.map_max
/-- The smaller of two reals, as an extended real. -/
theorem coe_min (a b : ℝ) : ((min a b : ℝ) : EReal) = min (a : EReal) b := EReal.coe_strictMono.monotone.map_min

/-- The logarithm of one is zero. -/
theorem log_one : Ideal.log 1 = 0 := by
  rw [show (1 : EReal) = ((1 : ℝ) : EReal) from rfl, Ideal.log_coe, if_neg (by norm_num)]; simp

/-- The logarithm of the logistic function, as the kernel computes it. -/
def lsig (l : EReal) : EReal := min l 0 - Ideal.log1p (Ideal.exp (0 - max l (-l)))

/-- The reference computes it as minus the softplus of minus the argument: the same at every extended real. -/
theorem lsig_eq (l : EReal) : -(max (-l) 0 + Ideal.log1p (Ideal.exp (-(max (-l) (-(-l)))))) = lsig l := by
  unfold lsig
  induction l with
  | bot => simp [Ideal.log1p, log_one]
  | top => simp [Ideal.log1p, log_one]
  | coe r =>
    have e1 : max (-(r : EReal)) (-(-(r : EReal))) = ((|r| : ℝ) : EReal) := by
      rw [neg_neg, max_comm, abs_eq_max_neg, coe_max, EReal.coe_neg]
    have e2 : max (r : EReal) (-(r : EReal)) = ((|r| : ℝ) : EReal) := by
      rw [abs_eq_max_neg, coe_max, EReal.coe_neg]
    have e3 : (1 : EReal) + ((Real.exp (-|r|) : ℝ) : EReal) = ((1 + Real.exp (-|r|) : ℝ) : EReal) := by norm_cast
    have e4 : ¬ (1 + Real.exp (-|r|) ≤ 0) := by have := Real.exp_pos (-|r|); linarith
    rw [e1, e2, zero_sub, ← EReal.coe_neg, ← EReal.coe_neg, Ideal.exp_coe, Ideal.log1p, e3, Ideal.log_coe, if_neg e4,
      show (0 : EReal) = ((0 : ℝ) : EReal) from rfl, ← coe_max, ← coe_min, ← EReal.coe_add, ← EReal.coe_neg, ← EReal.coe_sub]
    congr 1
    rcases le_total r 0 with h | h
    · rw [max_eq_left (by linarith), min_eq_left h]; ring
    · rw [max_eq_right (by linarith), min_eq_right h]; ring

/-- The square root's argument: the kernel's product with the hyperbolic tangent is the reference's `1 - exp (2 l)`. -/
theorem gap_eq (l : EReal) : (-1 - Ideal.exp l * Ideal.exp l) * Ideal.tanh l = -(Ideal.exp (2 * l) - 1) := by
  induction l with
  | bot =>
    have h2 : (2 : EReal) * ⊥ = ⊥ := EReal.mul_bot_of_pos (by norm_num)
    rw [h2]; simp
  | top =>
    have h2 : (2 : EReal) * ⊤ = ⊤ := EReal.mul_top_of_pos (by norm_num)
    rw [h2]; simp
    rw [show (⊤ : EReal) - 1 = ⊤ from rfl, EReal.neg_top]
  | coe r =>
    have h2 : (2 : EReal) * (r : EReal) = ((2 * r : ℝ) : EReal) := by norm_cast
    rw [h2, Ideal.exp_coe, Ideal.exp_coe, Ideal.tanh_coe, show (-1 : EReal) = ((-1 : ℝ) : EReal) from rfl,
      show (1 : EReal) = ((1 : ℝ) : EReal) from rfl, ← EReal.coe_mul, ← EReal.coe_sub, ← EReal.coe_mul, ← EReal.coe_sub, ← EReal.coe_neg]
    congr 1
    have hp := Real.exp_pos r
    have e2 : Real.exp (2 * r) = Real.exp r * Real.exp r := by rw [← Real.exp_add]; congr 1; ring
    rw [Real.tanh_eq_sinh_div_cosh, Real.sinh_eq, Real.cosh_eq, e2, Real.exp_neg]
    field_simp
    ring

section Spec
variable (x : ℕ → Fin 16 → Fin 2048 → EReal) (cw : Fin 4 → Fin 2048 → EReal) (cb : Fin 2048 → EReal)
  (wa wi : Fin 8 → Fin 256 → Fin 256 → EReal) (ba bi lam : Fin 2048 → EReal)

/-- Whether tap `k` of position `P` lies in the same stream as `P`: positions 0–255 are the context, 256–2303 the latent stream. -/
def InStream (P k : ℕ) : Prop :=
  if P < 256 then 2 ≤ P + k ∧ P + k < 258 else 258 ≤ P + k ∧ P + k < 2306

instance (P k : ℕ) : Decidable (InStream P k) := by unfold InStream; infer_instance

/-- What tap `k` of position `P` reads: the position `P + k - 2`, and zero outside the stream. -/
def tap (k P : ℕ) (b : Fin 16) (w : Fin 2048) : EReal := if InStream P k then x (P + k - 2) b w else 0

/-- The short convolution. -/
def uAt (P : ℕ) (b : Fin 16) (w : Fin 2048) : EReal :=
  cb w + cw 0 w * tap x 0 P b w + cw 1 w * tap x 1 P b w + cw 2 w * tap x 2 P b w + cw 3 w * tap x 3 P b w

/-- The head of a channel, and the channels of that head. -/
def hd (w : Fin 2048) : Fin 8 := ⟨w.val / 256, by omega⟩
/-- A channel's place in its head. -/
def lane (w : Fin 2048) : Fin 256 := ⟨w.val % 256, by omega⟩
/-- The channel of a head and a place. -/
def chan (h : Fin 8) (k : Fin 256) : Fin 2048 := ⟨256 * h.val + k.val, by omega⟩

/-- A gate's argument: the channel's column of its head's map of the convolved channels, and the bias. -/
def gAt (u : ℕ → Fin 16 → Fin 2048 → EReal) (wg : Fin 8 → Fin 256 → Fin 256 → EReal) (bg : Fin 2048 → EReal)
    (P : ℕ) (b : Fin 16) (w : Fin 2048) : EReal :=
  (∑ k : Fin 256, u P b (chan (hd w) k) * wg (hd w) k (lane w)) + bg w

/-- The logarithm of the decay. -/
def laAt (P : ℕ) (b : Fin 16) (w : Fin 2048) : EReal :=
  8 * Ideal.logistic (gAt (uAt x cw cb) wa ba P b w) * lsig (lam w)

/-- The input term. -/
def bAt (P : ℕ) (b : Fin 16) (w : Fin 2048) : EReal :=
  Ideal.sqrt ((-1 - Ideal.exp (laAt x cw cb wa ba lam P b w) * Ideal.exp (laAt x cw cb wa ba lam P b w)) * Ideal.tanh (laAt x cw cb wa ba lam P b w))
    * (Ideal.logistic (gAt (uAt x cw cb) wi bi P b w) * uAt x cw cb P b w)

/-- The state after the first `n` positions: `h ↦ a h + b` at each, from zero. -/
def hAt : ℕ → Fin 16 → Fin 2048 → EReal
  | 0, _, _ => 0
  | n + 1, b, w => Ideal.exp (laAt x cw cb wa ba lam n b w) * hAt n b w + bAt x cw cb wa wi ba bi lam n b w
end Spec

/-- The two streams laid end to end: positions 0 to 255 the context's, 256 to 2303 the latent's. -/
def xOf (a0 : Fin 16 → Fin 256 → Fin 2048 → EReal) (a1 : Fin 16 → Fin 2048 → Fin 2048 → EReal) (P : ℕ) (b : Fin 16) (w : Fin 2048) : EReal :=
  if h : P < 256 then a0 b ⟨P, h⟩ w else if h' : P - 256 < 2048 then a1 b ⟨P - 256, h'⟩ w else 0

end Cert.Proof.Rg
end
-- ==== Proof.RgTile.lean ====
/-
  One head of one grid point read at an index, over extended reals: what each stage of `RgHead.lean` holds in a row and channel.
-/
module

public import proofs.«01_k».proof.Proof.RgBlock
public import proofs.«01_k».proof.Proof.RgMath

@[expose] public section

set_option maxRecDepth 16384
noncomputable section
namespace Cert.Proof.Rg
open Cert.KernelIdeal Cert.KernelIdeal.Gen Idealize.ShloMosaic Idealize.ShloMosaic.TcCoe Idealize.SL.Sem

/-- A column block of a block, read at an index. -/
theorem cols_apply {F : FTy → Type} [FloatOps F] {R : ℕ} {e : EltTy} (r o : ℕ) (hr : o + r ≤ R) (x : Vec F ⟨2, ![R, 2048]⟩ e) (h : ℕ) (hh : h < 8)
    (i : Fin r) (j : Fin 256) :
    cols r o hr x h hh (ix2 i j) = x (ix2 (⟨o + i.val, by omega⟩ : Fin R) (⟨256 * h + j.val, by omega⟩ : Fin 2048)) := by
  refine congrArg x (funext fun a => ?_)
  match a with
  | ⟨0, _⟩ => exact Fin.ext (show o + 1 * i.val = o + i.val by omega)
  | ⟨1, _⟩ => exact Fin.ext (show 256 * h + 1 * j.val = 256 * h + j.val by omega)

/-- A head's matrix read at an index. -/
theorem gateMat_apply {F : FTy → Type} [FloatOps F] {e : EltTy} (x : Vec F S8x256x256 e) (h : ℕ) (hh : h < 8) (k c : Fin 256) :
    gateMat x h hh (ix3 (0 : Fin 1) k c) = x (ix3 (⟨h, hh⟩ : Fin 8) k c) := by
  refine congrArg x (funext fun a => ?_)
  match a with
  | ⟨0, _⟩ => exact Fin.ext (show h + 1 * 0 = h by omega)
  | ⟨1, _⟩ => exact Fin.ext (show 0 + 1 * k.val = k.val by omega)
  | ⟨2, _⟩ => exact Fin.ext (show 0 + 1 * c.val = c.val by omega)

/-- The rows with their neighbours read at an index. -/
theorem extRows_apply (kp kn : Ideal .f32) (cur : Vec Ideal S256x256 .bf16) (prv : Vec Ideal S32x256 .bf16) (nxt : Vec Ideal S16x256 .bf16)
    (e : Fin 304) (c : Fin 256) : extRows kp kn cur prv nxt (ix2 e c) =
      if h : e.val < 32 then prv (ix2 (⟨e.val, h⟩ : Fin 32) c) * kp
      else if h : e.val - 32 < 256 then cur (ix2 (⟨e.val - 32, h⟩ : Fin 256) c)
      else nxt (ix2 (⟨e.val - 32 - 256, by omega⟩ : Fin 16) c) * kn := by
  unfold extRows
  pointwise

/-- The convolution read at an index. -/
theorem convRows_apply (x : FVec Ideal S304x256 .f32) (cb w0 w1 w2 w3 : Vec Ideal S1x256 .f32) (r c : Fin 256) :
    convRows x cb w0 w1 w2 w3 (ix2 r c) =
      cb (ix2 (0 : Fin 1) c) + w0 (ix2 (0 : Fin 1) c) * x (ix2 (⟨r.val, by omega⟩ : Fin 304) c)
        + w1 (ix2 (0 : Fin 1) c) * x (ix2 (⟨16 + r.val, by omega⟩ : Fin 304) c)
        + w2 (ix2 (0 : Fin 1) c) * x (ix2 (⟨32 + r.val, by omega⟩ : Fin 304) c)
        + w3 (ix2 (0 : Fin 1) c) * x (ix2 (⟨48 + r.val, by omega⟩ : Fin 304) c) := by
  unfold convRows
  pointwise

/-- A gate's argument read at an index. -/
theorem gateRows_apply (u : FVec Ideal S256x256 .f32) (w : Vec Ideal S1x256x256 .bf16) (b : Vec Ideal S1x256 .f32) (r c : Fin 256) :
    gateRows u w b (ix2 r c) = (∑ k : Fin 256, u (ix2 r k) * w (ix3 (0 : Fin 1) k c)) + b (ix2 (0 : Fin 1) c) := by
  unfold gateRows
  pointwise

/-- The word of 8. -/
theorem eight : Ideal.ofBits .f32 0x41000000#32 = (8 : EReal) := by
  simp [Ideal.ofBits, Ideal.ieee, -EReal.coe_mul]; norm_num; try rfl

/-- The word of -1. -/
theorem minus_one : Ideal.ofBits .f32 0xBF800000#32 = (-1 : EReal) := by
  simp [Ideal.ofBits, Ideal.ieee, -EReal.coe_mul]; try norm_num

/-- The word of 1. -/
theorem one_bits : Ideal.ofBits .f32 0x3F800000#32 = (1 : EReal) := by
  simp [Ideal.ofBits, Ideal.ieee, -EReal.coe_mul]; try norm_num

/-- The logarithm of the decay read at an index. -/
theorem logRows_apply (ra : FVec Ideal S256x256 .f32) (lam : Vec Ideal S1x256 .f32) (r c : Fin 256) :
    logRows ra lam (ix2 r c) = 8 * Ideal.logistic (ra (ix2 r c)) * lsig (lam (ix2 (0 : Fin 1) c)) := by
  unfold logRows lsig
  rw [← eight]
  pointwise
  rfl

/-- The recurrence's input read at an index. -/
theorem inRows_apply (la ri u : FVec Ideal S256x256 .f32) (r c : Fin 256) :
    inRows la ri u (ix2 r c) =
      Ideal.sqrt ((-1 - Ideal.exp (la (ix2 r c)) * Ideal.exp (la (ix2 r c))) * Ideal.tanh (la (ix2 r c)))
        * (Ideal.logistic (ri (ix2 r c)) * u (ix2 r c)) := by
  unfold inRows
  rw [← minus_one]
  pointwise

/-- The state one position on. -/
theorem stRows_succ (a b : FVec Ideal S256x256 .f32) (s : FVec Ideal S16x256 .f32) (k : ℕ) (hk : k + 1 ≤ 16) (r : Fin 16) (c : Fin 256) :
    stRows a b s (k + 1) hk (ix2 r c) =
      a (ix2 (⟨16 * k + r.val, by omega⟩ : Fin 256) c) * stRows a b s k (Nat.le_of_succ_le hk) (ix2 r c)
        + b (ix2 (⟨16 * k + r.val, by omega⟩ : Fin 256) c) := by
  have e : ∀ v : FVec Ideal S256x256 .f32, extractStridedSlice S16x256 ![16 * k, 0] v (slices16 k hk) (ix2 r c) = v (ix2 (⟨16 * k + r.val, by omega⟩ : Fin 256) c) := by
    intro v
    refine congrArg v (funext fun a => ?_)
    match a with
    | ⟨0, _⟩ => exact Fin.ext rfl
    | ⟨1, _⟩ => exact Fin.ext (show 0 + c.val = c.val by omega)
  show extractStridedSlice S16x256 ![16 * k, 0] a (slices16 k hk) (ix2 r c) * stRows a b s k (Nat.le_of_succ_le hk) (ix2 r c)
    + extractStridedSlice S16x256 ![16 * k, 0] b (slices16 k hk) (ix2 r c) = _
  rw [e, e]

/-- The states of all positions read at an index. -/
theorem outRows_apply (a b : FVec Ideal S256x256 .f32) (s : FVec Ideal S16x256 .f32) (k r : Fin 16) (c : Fin 256) :
    outRows a b s (ix2 (⟨16 * k.val + r.val, by omega⟩ : Fin 256) c) = stRows a b s (k.val + 1) (by omega) (ix2 r c) := by
  have hf : concatenate S256x256 0 (List.ofFn fun n : Fin 16 => (⟨S16x256, stRows a b s (n.val + 1) (by omega)⟩ : (s : Shape) × (s.Idx → EReal)))
      concatenates_S16x256_S16x256_S16x256_S16x256_S16x256_S16x256_S16x256_S16x256_S16x256_S16x256_S16x256_S16x256_S16x256_S16x256_S16x256_S16x256_S256x256_d0
      (ix2 (⟨16 * k.val + r.val, by omega⟩ : Fin 256) c) = stRows a b s (k.val + 1) (by omega) (ix2 r c) := by
    refine concatenate_ofFn_apply (t := S256x256) (s₁ := S16x256) 0 _ _ rfl 16 rfl _ k ?_ (ix2 r c) ?_ ?_
    · show (16 * k.val + r.val) / 16 = k.val; omega
    · show r.val = (16 * k.val + r.val) % 16; omega
    · intro x hx
      match x with
      | ⟨0, _⟩ => exact absurd rfl hx
      | ⟨1, _⟩ => rfl
  exact hf

end Cert.Proof.Rg
end
-- ==== Proof.RgPoint.lean ====
/-
  One grid point over extended reals: from the state before its sixteen positions, the body leaves the recurrence's states at
  those positions, whenever the blocks it reads are the block, its neighbours and the parameters.
-/
module

public import proofs.«01_k».proof.Proof.RgTile

@[expose] public section

set_option maxRecDepth 16384
noncomputable section
namespace Cert.Proof.Rg
open Cert.KernelIdeal Cert.KernelIdeal.Gen Idealize.ShloMosaic Idealize.ShloMosaic.TcCoe Idealize.SL.Sem

/-- Channel `c` of head `h`. -/
def hch (h : ℕ) (hh : h < 8) (c : Fin 256) : Fin 2048 := ⟨256 * h + c.val, by omega⟩

/-- The head of a head's channel. -/
theorem hd_hch (h : ℕ) (hh : h < 8) (c : Fin 256) : hd (hch h hh c) = ⟨h, hh⟩ := Fin.ext (by show (256 * h + c.val) / 256 = h; omega)
/-- The place of a head's channel. -/
theorem lane_hch (h : ℕ) (hh : h < 8) (c : Fin 256) : lane (hch h hh c) = c := Fin.ext (by show (256 * h + c.val) % 256 = c.val; omega)

/-- The batch row of a block's row, and its position. -/
def bat (r : Fin 256) : Fin 16 := ⟨r.val % 16, by omega⟩

section
variable (x : ℕ → Fin 16 → Fin 2048 → EReal) (cw : Fin 4 → Fin 2048 → EReal) (cb : Fin 2048 → EReal)
  (wa wi : Fin 8 → Fin 256 → Fin 256 → EReal) (ba bi lam : Fin 2048 → EReal)

/-- What a point's blocks hold at tile `t`: sixteen positions of every batch row, two positions before (or a zero flag where
    a stream begins), one position after (or a zero flag where a stream ends), and the parameters. -/
structure Reads (t : ℕ) (kp kn : Ideal .f32)
    (x0 : Vec Ideal S256x2048 .bf16) (x1 : Vec Ideal S32x2048 .bf16) (x2 : Vec Ideal S16x2048 .bf16) (x3 : Vec Ideal S4x2048 .f32)
    (x4 : Vec Ideal S1x2048 .f32) (x5 : Vec Ideal S8x256x256 .bf16) (x6 : Vec Ideal S8x256x256 .bf16) (x7 : Vec Ideal S1x2048 .f32)
    (x8 : Vec Ideal S1x2048 .f32) (x9 : Vec Ideal S1x2048 .f32) : Prop where
  lt : t < 144
  cur : ∀ (r : Fin 256) (w : Fin 2048), x0 (ix2 r w) = x (16 * t + r.val / 16) (bat r) w
  prev : (kp = 0 ∧ (t = 0 ∨ t = 16)) ∨ (kp = 1 ∧ t ≠ 0 ∧ t ≠ 16 ∧
    ∀ (r : Fin 32) (w : Fin 2048), x1 (ix2 r w) = x (16 * t + r.val / 16 - 2) ⟨r.val % 16, by omega⟩ w)
  next : (kn = 0 ∧ (t = 15 ∨ t = 143)) ∨ (kn = 1 ∧ t ≠ 15 ∧ t ≠ 143 ∧
    ∀ (r : Fin 16) (w : Fin 2048), x2 (ix2 r w) = x (16 * t + 16) r w)
  h3 : ∀ k w, x3 (ix2 k w) = cw k w
  h4 : ∀ w, x4 (ix2 (0 : Fin 1) w) = cb w
  h5 : ∀ h k c, x5 (ix3 h k c) = wa h k c
  h6 : ∀ h k c, x6 (ix3 h k c) = wi h k c
  h7 : ∀ w, x7 (ix2 (0 : Fin 1) w) = ba w
  h8 : ∀ w, x8 (ix2 (0 : Fin 1) w) = bi w
  h9 : ∀ w, x9 (ix2 (0 : Fin 1) w) = lam w

variable {x cw cb wa wi ba bi lam}
variable {t : ℕ} {kp kn : Ideal .f32}
    {x0 : Vec Ideal S256x2048 .bf16} {x1 : Vec Ideal S32x2048 .bf16} {x2 : Vec Ideal S16x2048 .bf16} {x3 : Vec Ideal S4x2048 .f32}
    {x4 : Vec Ideal S1x2048 .f32} {x5 : Vec Ideal S8x256x256 .bf16} {x6 : Vec Ideal S8x256x256 .bf16} {x7 : Vec Ideal S1x2048 .f32}
    {x8 : Vec Ideal S1x2048 .f32} {x9 : Vec Ideal S1x2048 .f32}
  (H : Reads x cw cb wa wi ba bi lam t kp kn x0 x1 x2 x3 x4 x5 x6 x7 x8 x9) (h : ℕ) (hh : h < 8)

/-- Equal positions and batch rows name the same entry. -/
theorem x_congr {P Q : ℕ} {b b' : Fin 16} (w : Fin 2048) (hP : P = Q) (hb : b.val = b'.val) : x P b w = x Q b' w := by
  subst hP; rw [Fin.ext hb]

include H in
/-- Row `16 k + r` of the extended block is tap `k` of row `r`'s position. -/
theorem ext_tap (k : ℕ) (hk : k < 4) (r c : Fin 256) (e : Fin 304) (he : e.val = 16 * k + r.val) :
    extRows kp kn (cols 256 0 (Nat.le_refl _) x0 h hh) (cols 32 0 (Nat.le_refl _) x1 h hh) (cols 16 0 (Nat.le_refl _) x2 h hh) (ix2 e c)
      = tap x k (16 * t + r.val / 16) (bat r) (hch h hh c) := by
  have ht := H.lt
  have hr := r.isLt
  have hin : ∀ P, InStream P k ↔ if P < 256 then 2 ≤ P + k ∧ P + k < 258 else 258 ≤ P + k ∧ P + k < 2306 := fun P => Iff.rfl
  rw [extRows_apply]
  unfold tap
  by_cases h1 : e.val < 32
  · rw [dif_pos h1, cols_apply]
    rcases H.prev with ⟨kp0, ht0⟩ | ⟨kp1, n0, n16, hx⟩
    · rw [kp0, mul_zero, if_neg]
      rw [hin]; split <;> omega
    · rw [kp1, mul_one, hx, if_pos]
      · exact x_congr _ (by show 16 * t + (0 + e.val) / 16 - 2 = _; omega) (by show (0 + e.val) % 16 = r.val % 16; omega)
      · rw [hin]; split <;> omega
  · rw [dif_neg h1]
    by_cases h2 : e.val - 32 < 256
    · rw [dif_pos h2, cols_apply, H.cur, if_pos]
      · exact x_congr _ (by show 16 * t + (0 + (e.val - 32)) / 16 = _; omega) (by show (0 + (e.val - 32)) % 16 = r.val % 16; omega)
      · rw [hin]; split <;> omega
    · rw [dif_neg h2, cols_apply]
      rcases H.next with ⟨kn0, ht0⟩ | ⟨kn1, n0, n16, hx⟩
      · rw [kn0, mul_zero, if_neg]
        rw [hin]; split <;> omega
      · rw [kn1, mul_one, hx, if_pos]
        · exact x_congr _ (by omega) (by show 0 + (e.val - 32 - 256) = r.val % 16; omega)
        · rw [hin]; split <;> omega

/-- A row of parameters read in a head's columns. -/
theorem row_apply {x4 : Vec Ideal S1x2048 .f32} {f : Fin 2048 → EReal} (h4 : ∀ w, x4 (ix2 (0 : Fin 1) w) = f w) (c : Fin 256) :
    cols 1 0 (Nat.le_refl _) x4 h hh (ix2 (0 : Fin 1) c) = f (hch h hh c) :=
  (cols_apply _ _ _ _ _ _ _ _).trans (h4 _)

include H in
/-- The convolved rows are the convolution. -/
theorem uBlk_apply (r c : Fin 256) :
    uBlk kp kn x0 x1 x2 x3 x4 h hh (ix2 r c) = uAt x cw cb (16 * t + r.val / 16) (bat r) (hch h hh c) := by
  unfold uBlk uAt
  rw [convRows_apply, row_apply h hh H.h4, cols_apply, cols_apply, cols_apply, cols_apply,
    ext_tap H h hh 0 (by omega) r c _ (by show r.val = _; omega), ext_tap H h hh 1 (by omega) r c _ (by show 16 + r.val = _; omega),
    ext_tap H h hh 2 (by omega) r c _ (by show 32 + r.val = _; omega), ext_tap H h hh 3 (by omega) r c _ (by show 48 + r.val = _; omega)]
  rw [← H.h3, ← H.h3, ← H.h3, ← H.h3]
  rfl

include H in
/-- A gate's rows are the gate. -/
theorem gate_apply {xw : Vec Ideal S8x256x256 .bf16} {xb : Vec Ideal S1x2048 .f32} {wg : Fin 8 → Fin 256 → Fin 256 → EReal} {bg : Fin 2048 → EReal}
    (hw : ∀ h k c, xw (ix3 h k c) = wg h k c) (hb : ∀ w, xb (ix2 (0 : Fin 1) w) = bg w) (r c : Fin 256) :
    gateRows (uBlk kp kn x0 x1 x2 x3 x4 h hh) (gateMat xw h hh) (cols 1 0 (Nat.le_refl _) xb h hh) (ix2 r c)
      = gAt (uAt x cw cb) wg bg (16 * t + r.val / 16) (bat r) (hch h hh c) := by
  rw [gateRows_apply, row_apply h hh hb, gAt, hd_hch, lane_hch]
  refine congrArg (· + _) (Finset.sum_congr rfl fun k _ => ?_)
  rw [uBlk_apply H, gateMat_apply, hw]
  rfl

include H in
/-- The logarithms of the decays. -/
theorem laBlk_apply (r c : Fin 256) :
    laBlk kp kn x0 x1 x2 x3 x4 x5 x7 x9 h hh (ix2 r c) = laAt x cw cb wa ba lam (16 * t + r.val / 16) (bat r) (hch h hh c) := by
  unfold laBlk laAt
  rw [logRows_apply, gate_apply H h hh H.h5 H.h7, row_apply h hh H.h9]

include H in
/-- The input terms. -/
theorem bBlk_apply (r c : Fin 256) :
    bBlk kp kn x0 x1 x2 x3 x4 x5 x6 x7 x8 x9 h hh (ix2 r c) = bAt x cw cb wa wi ba bi lam (16 * t + r.val / 16) (bat r) (hch h hh c) := by
  unfold bBlk bAt
  rw [inRows_apply, laBlk_apply H, gate_apply H h hh H.h6 H.h8, uBlk_apply H]

include H in
/-- The states after `k` of the block's positions. -/
theorem st_apply (s : FVec Ideal S16x256 .f32) (hs : ∀ (b : Fin 16) (c : Fin 256), s (ix2 b c) = hAt x cw cb wa wi ba bi lam (16 * t) b (hch h hh c)) :
    ∀ (k : ℕ) (hk : k ≤ 16) (b : Fin 16) (c : Fin 256),
      stRows (exp (laBlk kp kn x0 x1 x2 x3 x4 x5 x7 x9 h hh)) (bBlk kp kn x0 x1 x2 x3 x4 x5 x6 x7 x8 x9 h hh) s k hk (ix2 b c)
        = hAt x cw cb wa wi ba bi lam (16 * t + k) b (hch h hh c)
  | 0, _, b, c => hs b c
  | k + 1, hk, b, c => by
    have e1 : 16 * t + (16 * k + b.val) / 16 = 16 * t + k := by omega
    have e2 : bat (⟨16 * k + b.val, by omega⟩ : Fin 256) = b := Fin.ext (by show (16 * k + b.val) % 16 = b.val; omega)
    rw [stRows_succ, st_apply s hs k (Nat.le_of_succ_le hk) b c, bBlk_apply H]
    show Ideal.exp (laBlk kp kn x0 x1 x2 x3 x4 x5 x7 x9 h hh (ix2 _ c)) * _ + _ = _
    rw [laBlk_apply H, e1, e2]
    rfl

include H in
/-- The state after the block. -/
theorem stBlk_apply (s : FVec Ideal S16x256 .f32) (hs : ∀ (b : Fin 16) (c : Fin 256), s (ix2 b c) = hAt x cw cb wa wi ba bi lam (16 * t) b (hch h hh c))
    (b : Fin 16) (c : Fin 256) :
    stBlk kp kn x0 x1 x2 x3 x4 x5 x6 x7 x8 x9 h hh s (ix2 b c) = hAt x cw cb wa wi ba bi lam (16 * t + 16) b (hch h hh c) := by
  unfold stBlk
  rw [shapeCast_self]
  exact st_apply H h hh s hs 16 (Nat.le_refl _) b c

include H in
/-- The output rows are the states after each position. -/
theorem outBlk_apply (s : FVec Ideal S16x256 .f32) (hs : ∀ (b : Fin 16) (c : Fin 256), s (ix2 b c) = hAt x cw cb wa wi ba bi lam (16 * t) b (hch h hh c))
    (r c : Fin 256) :
    outBlk kp kn x0 x1 x2 x3 x4 x5 x6 x7 x8 x9 h hh s (ix2 r c)
      = hAt x cw cb wa wi ba bi lam (16 * t + r.val / 16 + 1) (bat r) (hch h hh c) := by
  have hr : r = (⟨16 * (⟨r.val / 16, by omega⟩ : Fin 16).val + (bat r).val, by omega⟩ : Fin 256) :=
    Fin.ext (by show r.val = 16 * (r.val / 16) + r.val % 16; omega)
  unfold outBlk
  conv_lhs => rw [hr]
  rw [outRows_apply]
  exact st_apply H h hh s hs _ _ _ _
end

section
variable {x : ℕ → Fin 16 → Fin 2048 → EReal} {cw : Fin 4 → Fin 2048 → EReal} {cb : Fin 2048 → EReal}
  {wa wi : Fin 8 → Fin 256 → Fin 256 → EReal} {ba bi lam : Fin 2048 → EReal}
variable {t : ℕ} {kp kn : Ideal .f32}
    {x0 : Vec Ideal S256x2048 .bf16} {x1 : Vec Ideal S32x2048 .bf16} {x2 : Vec Ideal S16x2048 .bf16} {x3 : Vec Ideal S4x2048 .f32}
    {x4 : Vec Ideal S1x2048 .f32} {x5 : Vec Ideal S8x256x256 .bf16} {x6 : Vec Ideal S8x256x256 .bf16} {x7 : Vec Ideal S1x2048 .f32}
    {x8 : Vec Ideal S1x2048 .f32} {x9 : Vec Ideal S1x2048 .f32}
  (H : Reads x cw cb wa wi ba bi lam t kp kn x0 x1 x2 x3 x4 x5 x6 x7 x8 x9)
  (s : (h : ℕ) → h < 8 → FVec Ideal S16x256 .f32)
  (hs : ∀ h hh (b : Fin 16) (c : Fin 256), s h hh (ix2 b c) = hAt x cw cb wa wi ba bi lam (16 * t) b (hch h hh c))

/-- A channel is the channel of its head and its place. -/
theorem hch_headOf (w : Fin 2048) : hch (headOf w) (headOf_lt w) (⟨w.val % 256, Nat.mod_lt _ (by decide)⟩ : Fin 256) = w :=
  Fin.ext (by show 256 * (w.val / 256) + w.val % 256 = w.val; omega)

include H hs in
/-- The whole carried state after the block. -/
theorem join_st (b : Fin 16) (w : Fin 2048) :
    joinCols (fun h hh => stBlk kp kn x0 x1 x2 x3 x4 x5 x6 x7 x8 x9 h hh (s h hh)) (ix2 b w)
      = hAt x cw cb wa wi ba bi lam (16 * t + 16) b w := by
  refine (stBlk_apply H (headOf w) (headOf_lt w) (s _ _) (hs _ _) b _).trans ?_
  exact congrArg _ (hch_headOf w)

include H hs in
/-- The whole output block. -/
theorem join_out (r : Fin 256) (w : Fin 2048) :
    joinCols (fun h hh => outBlk kp kn x0 x1 x2 x3 x4 x5 x6 x7 x8 x9 h hh (s h hh)) (ix2 r w)
      = hAt x cw cb wa wi ba bi lam (16 * t + r.val / 16 + 1) (bat r) w := by
  refine (outBlk_apply H (headOf w) (headOf_lt w) (s _ _) (hs _ _) r _).trans ?_
  exact congrArg _ (hch_headOf w)
end
end Cert.Proof.Rg
end
-- ==== Proof.RgKernel.lean ====
/-
  The arrays the recurrence kernel's region finds, and the blocks every grid point reads of them.
-/
module

public import proofs.«01_k».proof.Proof.RgPoint
public import proofs.«01_k».proof.Proof.RgBlock

@[expose] public section

set_option maxRecDepth 16384
noncomputable section
namespace Cert.Proof.Rg
open Cert.KernelIdeal Cert.KernelIdeal.Gen Idealize.ShloMosaic Idealize.ShloMosaic.TcCoe Idealize.SL.Sem

variable (m : (ℓ : Loc nD τ sig) → Buf (Elt Ideal) ℓ) (c : Dev nD)

/-- The sequence the launch finds. -/
def kx : ℕ → Fin 16 → Fin 2048 → EReal :=
  xOf (fun b p w => m ((c : Thread nD τ).loc main_arg0) (ix3 b p w)) (fun b p w => m ((c : Thread nD τ).loc main_arg1) (ix3 b p w))

/-- The context stream in row order, as the launch finds it. -/
theorem V_ctx : V m c main_v1 = shapeCast S4096x2048 (transpose S256x16x2048 [1, 0, 2] (m ((c : Thread nD τ).loc main_arg0)) transposes_S16x256x2048_S256x16x2048_1_0_2) shapeCasts_S256x16x2048_S4096x2048 := by
  entry_read; rfl

/-- The latent stream in row order, as the launch finds it. -/
theorem V_lat : V m c main_v3 = shapeCast S32768x2048 (transpose S2048x16x2048 [1, 0, 2] (m ((c : Thread nD τ).loc main_arg1)) transposes_S16x2048x2048_S2048x16x2048_1_0_2) shapeCasts_S2048x16x2048_S32768x2048 := by
  entry_read; rfl

/-- The call's rows are the context's, then the latents'. -/
theorem V_v5_eq : (V m c main_v5 : Vec Ideal S36864x2048 .bf16) = concatenate S36864x2048 0 [⟨S4096x2048, V m c main_v1⟩, ⟨S32768x2048, V m c main_v3⟩] concatenates_S4096x2048_S32768x2048_S36864x2048_d0 := by
  entry_read; rfl

/-- A context row read at an index. -/
theorem V_ctx_apply (r : Fin 4096) (w : Fin 2048) : (V m c main_v1 : Vec Ideal S4096x2048 .f32) (ix2 r w)
    = m ((c : Thread nD τ).loc main_arg0) (ix3 (⟨r.val % 16, by omega⟩ : Fin 16) (⟨r.val / 16, by omega⟩ : Fin 256) w) := by
  rw [V_ctx]
  pointwise

/-- A latent row read at an index. -/
theorem V_lat_apply (r : Fin 32768) (w : Fin 2048) : (V m c main_v3 : Vec Ideal S32768x2048 .f32) (ix2 r w)
    = m ((c : Thread nD τ).loc main_arg1) (ix3 (⟨r.val % 16, by omega⟩ : Fin 16) (⟨r.val / 16, by omega⟩ : Fin 2048) w) := by
  rw [V_lat]
  pointwise

/-- Row `r` of the activation array is position `r / 16` of batch row `r % 16`. -/
theorem V_v5 (r : Fin 36864) (w : Fin 2048) : (V m c main_v5 : Vec Ideal S36864x2048 .bf16) (ix2 r w) = kx m c (r.val / 16) ⟨r.val % 16, by omega⟩ w := by
  rw [V_v5_eq]
  have h1 := V_ctx_apply m c
  have h2 := V_lat_apply m c
  generalize V m c main_v1 = A at h1 ⊢
  generalize V m c main_v3 = B at h2 ⊢
  pointwise
  unfold kx xOf
  have hr := r.isLt
  by_cases h : r.val < 4096
  · rw [dif_pos h, h1, dif_pos (by omega)]
  · rw [dif_neg h, h2, dif_neg (by omega), dif_pos (by omega)]
    refine congrArg (m ((c : Thread nD τ).loc main_arg1)) (congrArg₂ (fun p q => ix3 p q w) (Fin.ext ?_) (Fin.ext ?_))
    · show (r.val - 4096) % 16 = r.val % 16; omega
    · show (r.val - 4096) / 16 = r.val / 16 - 256; omega

/-- The blocks that the three row windows name at each point. -/
theorem idx_in : ∀ t : Fin cfg0.N, win0_0.index t = ![t.val, 0] ∧ win0_1.index t = ![8 * t.val - 1, 0] ∧ win0_2.index t = ![min (16 * (t.val + 1)) 2303, 0]
    ∧ win0_3.index t = ![0, 0] ∧ win0_4.index t = ![0, 0] ∧ win0_5.index t = ![0, 0, 0] ∧ win0_6.index t = ![0, 0, 0] ∧ win0_7.index t = ![0, 0]
    ∧ win0_8.index t = ![0, 0] ∧ win0_9.index t = ![0, 0] ∧ win0_10.index t = ![t.val, 0] := by decide +kernel

/-- The point's own 256 rows. -/
theorem iblk0 (t : Fin cfg0.N) (r : Fin 256) (w : Fin 2048) :
    (iblk m c 0 t : Vec Ideal S256x2048 .bf16) (ix2 r w) = kx m c (16 * t.val + r.val / 16) ⟨r.val % 16, by omega⟩ w := by
  have ht : t.val < 144 := t.isLt
  have e : (iblk m c 0 t : Vec Ideal S256x2048 .bf16) (ix2 r w) = (V m c main_v5 : Vec Ideal S36864x2048 .bf16) (ix2 ⟨256 * t.val + r.val, by omega⟩ w) := by
    blk_ext [iblk, V, idx_in t]
  rw [e, V_v5]
  exact x_congr _ (by show (256 * t.val + r.val) / 16 = _; omega) (by show (256 * t.val + r.val) % 16 = r.val % 16; omega)

/-- The 32 rows before the point's, except at the first point. -/
theorem iblk1 (t : Fin cfg0.N) (h0 : t.val ≠ 0) (r : Fin 32) (w : Fin 2048) :
    (iblk m c 1 t : Vec Ideal S32x2048 .bf16) (ix2 r w) = kx m c (16 * t.val + r.val / 16 - 2) ⟨r.val % 16, by omega⟩ w := by
  have ht : t.val < 144 := t.isLt
  have e : (iblk m c 1 t : Vec Ideal S32x2048 .bf16) (ix2 r w) = (V m c main_v5 : Vec Ideal S36864x2048 .bf16) (ix2 ⟨32 * (8 * t.val - 1) + r.val, by omega⟩ w) := by
    blk_ext [iblk, V, idx_in t]
  rw [e, V_v5]
  exact x_congr _ (by show (32 * (8 * t.val - 1) + r.val) / 16 = _; omega) (by show (32 * (8 * t.val - 1) + r.val) % 16 = r.val % 16; omega)

/-- The 16 rows after the point's, except at the last point. -/
theorem iblk2 (t : Fin cfg0.N) (h0 : t.val ≠ 143) (r : Fin 16) (w : Fin 2048) :
    (iblk m c 2 t : Vec Ideal S16x2048 .bf16) (ix2 r w) = kx m c (16 * t.val + 16) r w := by
  have ht : t.val < 144 := t.isLt
  have e : (iblk m c 2 t : Vec Ideal S16x2048 .bf16) (ix2 r w) = (V m c main_v5 : Vec Ideal S36864x2048 .bf16) (ix2 ⟨16 * (16 * (t.val + 1)) + r.val, by omega⟩ w) := by
    have hm : min (16 * (t.val + 1)) 2303 = 16 * (t.val + 1) := by omega
    blk_ext [iblk, V, idx_in t, hm]
  rw [e, V_v5]
  exact x_congr _ (by show (16 * (16 * (t.val + 1)) + r.val) / 16 = _; omega) (by show (16 * (16 * (t.val + 1)) + r.val) % 16 = r.val; omega)

/-- The convolution's weights. -/
theorem iblk3 (t : Fin cfg0.N) (k : Fin 4) (w : Fin 2048) :
    (iblk m c 3 t : Vec Ideal S4x2048 .f32) (ix2 k w) = m ((c : Thread nD τ).loc main_arg2) (ix2 k w) := by
  blk_ext [iblk, V, idx_in t]

/-- The convolution's bias as a row. -/
theorem V_v6 : V m c main_v6 = broadcastInDim S1x2048 ![1] bcast_S2048_S1x2048_1 (m ((c : Thread nD τ).loc main_arg3)) := by entry_read; rfl
/-- The recurrence gate's bias as a row. -/
theorem V_v9 : V m c main_v9 = broadcastInDim S1x2048 ![1] bcast_S2048_S1x2048_1 (m ((c : Thread nD τ).loc main_arg5)) := by entry_read; rfl
/-- The input gate's bias as a row. -/
theorem V_v10 : V m c main_v10 = broadcastInDim S1x2048 ![1] bcast_S2048_S1x2048_1 (m ((c : Thread nD τ).loc main_arg7)) := by entry_read; rfl
/-- The decay parameter as a row. -/
theorem V_v11 : V m c main_v11 = broadcastInDim S1x2048 ![1] bcast_S2048_S1x2048_1 (m ((c : Thread nD τ).loc main_arg8)) := by entry_read; rfl
/-- The recurrence gate's matrices. -/
theorem V_v7 : (V m c main_v7 : Vec Ideal S8x256x256 .bf16) = m ((c : Thread nD τ).loc main_arg4) := by entry_read; rfl
/-- The input gate's matrices. -/
theorem V_v8 : (V m c main_v8 : Vec Ideal S8x256x256 .bf16) = m ((c : Thread nD τ).loc main_arg6) := by entry_read; rfl

/-- The convolution's bias at every point. -/
theorem iblk4 (t : Fin cfg0.N) (w : Fin 2048) :
    (iblk m c 4 t : Vec Ideal S1x2048 .f32) (ix2 (0 : Fin 1) w) = m ((c : Thread nD τ).loc main_arg3) (ix1 w) := by
  have e : (iblk m c 4 t : Vec Ideal S1x2048 .f32) (ix2 (0 : Fin 1) w) = (V m c main_v6 : Vec Ideal S1x2048 .f32) (ix2 (0 : Fin 1) w) := by blk_ext [iblk, V, idx_in t]
  rw [e, V_v6]; pointwise

/-- The recurrence gate's bias at every point. -/
theorem iblk7 (t : Fin cfg0.N) (w : Fin 2048) :
    (iblk m c 7 t : Vec Ideal S1x2048 .f32) (ix2 (0 : Fin 1) w) = m ((c : Thread nD τ).loc main_arg5) (ix1 w) := by
  have e : (iblk m c 7 t : Vec Ideal S1x2048 .f32) (ix2 (0 : Fin 1) w) = (V m c main_v9 : Vec Ideal S1x2048 .f32) (ix2 (0 : Fin 1) w) := by blk_ext [iblk, V, idx_in t]
  rw [e, V_v9]; pointwise

/-- The input gate's bias at every point. -/
theorem iblk8 (t : Fin cfg0.N) (w : Fin 2048) :
    (iblk m c 8 t : Vec Ideal S1x2048 .f32) (ix2 (0 : Fin 1) w) = m ((c : Thread nD τ).loc main_arg7) (ix1 w) := by
  have e : (iblk m c 8 t : Vec Ideal S1x2048 .f32) (ix2 (0 : Fin 1) w) = (V m c main_v10 : Vec Ideal S1x2048 .f32) (ix2 (0 : Fin 1) w) := by blk_ext [iblk, V, idx_in t]
  rw [e, V_v10]; pointwise

/-- The decay parameter at every point. -/
theorem iblk9 (t : Fin cfg0.N) (w : Fin 2048) :
    (iblk m c 9 t : Vec Ideal S1x2048 .f32) (ix2 (0 : Fin 1) w) = m ((c : Thread nD τ).loc main_arg8) (ix1 w) := by
  have e : (iblk m c 9 t : Vec Ideal S1x2048 .f32) (ix2 (0 : Fin 1) w) = (V m c main_v11 : Vec Ideal S1x2048 .f32) (ix2 (0 : Fin 1) w) := by blk_ext [iblk, V, idx_in t]
  rw [e, V_v11]; pointwise

/-- The recurrence gate's matrices at every point. -/
theorem iblk5 (t : Fin cfg0.N) (h : Fin 8) (k l : Fin 256) :
    (iblk m c 5 t : Vec Ideal S8x256x256 .bf16) (ix3 h k l) = m ((c : Thread nD τ).loc main_arg4) (ix3 h k l) := by
  have e : (iblk m c 5 t : Vec Ideal S8x256x256 .bf16) (ix3 h k l) = (V m c main_v7 : Vec Ideal S8x256x256 .bf16) (ix3 h k l) := by blk_ext [iblk, V, idx_in t]
  rw [e, V_v7]

/-- The input gate's matrices at every point. -/
theorem iblk6 (t : Fin cfg0.N) (h : Fin 8) (k l : Fin 256) :
    (iblk m c 6 t : Vec Ideal S8x256x256 .bf16) (ix3 h k l) = m ((c : Thread nD τ).loc main_arg6) (ix3 h k l) := by
  have e : (iblk m c 6 t : Vec Ideal S8x256x256 .bf16) (ix3 h k l) = (V m c main_v8 : Vec Ideal S8x256x256 .bf16) (ix3 h k l) := by blk_ext [iblk, V, idx_in t]
  rw [e, V_v8]

/-- The word the body compares to decide whether a point starts a stream. -/
def posWord (t : Fin grid0.N) : BitVec 32 :=
  Scalar.select (Scalar.cmpi .slt (BitVec.ofNat 32 (grid0.coords t 0).val) 16#32) (BitVec.ofNat 32 (grid0.coords t 0).val) (Scalar.subi (BitVec.ofNat 32 (grid0.coords t 0).val) 16#32)

/-- The two points at which a stream starts. -/
theorem first_bit : ∀ t : Fin grid0.N, Scalar.cmpi .eq (posWord t) 0#32 = if t.val = 0 ∨ t.val = 16 then 1#1 else 0#1 := by decide +kernel

/-- The two points at which a stream ends. -/
theorem last_bit : ∀ t : Fin grid0.N, Scalar.cmpi .eq (posWord t) (Scalar.subi (Scalar.select (Scalar.cmpi .slt (BitVec.ofNat 32 (grid0.coords t 0).val) 16#32) 16#32 128#32) 1#32)
    = if t.val = 15 ∨ t.val = 143 then 1#1 else 0#1 := by decide +kernel

/-- The factor of the rows before: zero where a stream starts. -/
theorem kp_eq (t : Fin cfg0.N) : (k0_pay4 (F := Ideal) (grid0.coords t)) = if t.val = 0 ∨ t.val = 16 then 0 else 1 := by
  have e : k0_pay4 (F := Ideal) (grid0.coords t) = Scalar.select (Scalar.cmpi .eq (posWord t) 0#32) (FloatOps.ofBits (F := Ideal) .f32 0x00000000#32) (FloatOps.ofBits (F := Ideal) .f32 0x3F800000#32) := rfl
  rw [e, first_bit t]
  split
  · exact Ideal.ofBits_zero .f32
  · exact one_bits

/-- The factor of the rows after: zero where a stream ends. -/
theorem kn_eq (t : Fin cfg0.N) : (k0_pay5 (F := Ideal) (grid0.coords t)) = if t.val = 15 ∨ t.val = 143 then 0 else 1 := by
  have e : k0_pay5 (F := Ideal) (grid0.coords t) = Scalar.select (Scalar.cmpi .eq (posWord t) (Scalar.subi (Scalar.select (Scalar.cmpi .slt (BitVec.ofNat 32 (grid0.coords t 0).val) 16#32) 16#32 128#32) 1#32)) (FloatOps.ofBits (F := Ideal) .f32 0x00000000#32) (FloatOps.ofBits (F := Ideal) .f32 0x3F800000#32) := rfl
  rw [e, last_bit t]
  split
  · exact Ideal.ofBits_zero .f32
  · exact one_bits

/-- The parameters the launch finds. -/
def kcw : Fin 4 → Fin 2048 → EReal := fun k w => m ((c : Thread nD τ).loc main_arg2) (ix2 k w)
/-- The convolution's bias. -/
def kcb : Fin 2048 → EReal := fun w => m ((c : Thread nD τ).loc main_arg3) (ix1 w)
/-- The recurrence gate's matrices. -/
def kwa : Fin 8 → Fin 256 → Fin 256 → EReal := fun h k l => m ((c : Thread nD τ).loc main_arg4) (ix3 h k l)
/-- The recurrence gate's bias. -/
def kba : Fin 2048 → EReal := fun w => m ((c : Thread nD τ).loc main_arg5) (ix1 w)
/-- The input gate's matrices. -/
def kwi : Fin 8 → Fin 256 → Fin 256 → EReal := fun h k l => m ((c : Thread nD τ).loc main_arg6) (ix3 h k l)
/-- The input gate's bias. -/
def kbi : Fin 2048 → EReal := fun w => m ((c : Thread nD τ).loc main_arg7) (ix1 w)
/-- The decay parameter. -/
def klam : Fin 2048 → EReal := fun w => m ((c : Thread nD τ).loc main_arg8) (ix1 w)

/-- Every grid point reads its sixteen positions, their neighbours and the parameters. -/
theorem reads_at (t : Fin cfg0.N) :
    Reads (kx m c) (kcw m c) (kcb m c) (kwa m c) (kwi m c) (kba m c) (kbi m c) (klam m c) t.val (k0_pay4 (grid0.coords t)) (k0_pay5 (grid0.coords t))
      (iblk m c 0 t) (iblk m c 1 t) (iblk m c 2 t) (iblk m c 3 t) (iblk m c 4 t) (iblk m c 5 t) (iblk m c 6 t) (iblk m c 7 t) (iblk m c 8 t) (iblk m c 9 t) where
  lt := t.isLt
  cur := iblk0 m c t
  prev := by
    rw [kp_eq]
    by_cases h : t.val = 0 ∨ t.val = 16
    · exact Or.inl ⟨if_pos h, h⟩
    · exact Or.inr ⟨if_neg h, fun e => h (Or.inl e), fun e => h (Or.inr e), iblk1 m c t fun e => h (Or.inl e)⟩
  next := by
    rw [kn_eq]
    by_cases h : t.val = 15 ∨ t.val = 143
    · exact Or.inl ⟨if_pos h, h⟩
    · exact Or.inr ⟨if_neg h, fun e => h (Or.inl e), fun e => h (Or.inr e), iblk2 m c t fun e => h (Or.inr e)⟩
  h3 := iblk3 m c t
  h4 := iblk4 m c t
  h5 := iblk5 m c t
  h6 := iblk6 m c t
  h7 := iblk7 m c t
  h8 := iblk8 m c t
  h9 := iblk9 m c t

/-- The recurrence's state before position `n`, over what the launch finds. -/
def kh (n : ℕ) (b : Fin 16) (w : Fin 2048) : EReal :=
  hAt (kx m c) (kcw m c) (kcb m c) (kwa m c) (kwi m c) (kba m c) (kbi m c) (klam m c) n b w

/-- The first point's state and block. -/
theorem first_point (t : Fin cfg0.N) (h0 : t.val % 144 = 0) :
    (∀ (b : Fin 16) (w : Fin 2048), (outsAt0 m c t.val t.isLt).2 (ix2 b w) = kh m c (16 * t.val + 16) b w)
      ∧ ∀ (r : Fin 256) (w : Fin 2048), (outsAt0 m c t.val t.isLt).1 (ix2 r w) = kh m c (16 * t.val + r.val / 16 + 1) (bat r) w := by
  have ht : t.val = 0 := by have : t.val < 144 := t.isLt; omega
  have hs : ∀ (h : ℕ) (hh : h < 8) (b : Fin 16) (l : Fin 256), (broadcast S16x256 (FloatOps.ofBits (F := Ideal) .f32 0x00000000#32) : Vec Ideal S16x256 .f32) (ix2 b l)
      = kh m c (16 * t.val) b (hch h hh l) := fun h hh b l => by
    rw [ht]; exact Ideal.ofBits_zero .f32
  rw [outsAt0_A m c t h0]
  constructor
  · intro b w
    dsimp only
    rw [sout0_A_0_eq]
    exact join_st (reads_at m c t) (fun h hh => _) hs b w
  · intro r w
    dsimp only
    rw [out0_A_10_eq]
    exact join_out (reads_at m c t) (fun h hh => _) hs r w

/-- A later point's state and block, from the state the point before left. -/
theorem later_point (t : Fin cfg0.N) (h0 : ¬t.val % 144 = 0)
    (ih : ∀ (b : Fin 16) (w : Fin 2048), (outsAt0 m c (t.val - 1) (by omega)).2 (ix2 b w) = kh m c (16 * t.val) b w) :
    (∀ (b : Fin 16) (w : Fin 2048), (outsAt0 m c t.val t.isLt).2 (ix2 b w) = kh m c (16 * t.val + 16) b w)
      ∧ ∀ (r : Fin 256) (w : Fin 2048), (outsAt0 m c t.val t.isLt).1 (ix2 r w) = kh m c (16 * t.val + r.val / 16 + 1) (bat r) w := by
  rw [outsAt0_B m c t h0]
  generalize (outsAt0 m c (t.val - 1) _).2 = S at ih ⊢
  have hs : ∀ (h : ℕ) (hh : h < 8) (b : Fin 16) (l : Fin 256), cols 16 0 (Nat.le_refl _) S h hh (ix2 b l)
      = kh m c (16 * t.val) b (hch h hh l) := fun h hh b l => by
    rw [cols_apply, ← ih]
    congr 1
    exact congrArg (fun q => ix2 q _) (Fin.ext (Nat.zero_add _))
  constructor
  · intro b w
    dsimp only
    rw [sout0_B_0_eq]
    exact join_st (reads_at m c t) (fun h hh => _) hs b w
  · intro r w
    dsimp only
    rw [out0_B_10_eq]
    exact join_out (reads_at m c t) (fun h hh => _) hs r w

/-- After every point the carried state and the output block hold the recurrence's states. -/
theorem points : ∀ (n : ℕ) (hn : n < cfg0.N),
    (∀ (b : Fin 16) (w : Fin 2048), (outsAt0 m c n hn).2 (ix2 b w) = kh m c (16 * n + 16) b w)
      ∧ ∀ (r : Fin 256) (w : Fin 2048), (outsAt0 m c n hn).1 (ix2 r w) = kh m c (16 * n + r.val / 16 + 1) (bat r) w
  | 0, hn => first_point m c ⟨0, hn⟩ rfl
  | n + 1, hn => later_point m c ⟨n + 1, hn⟩ (by have : n + 1 < 144 := hn; show ¬(n + 1) % 144 = 0; omega)
      (points n (Nat.lt_of_succ_lt hn)).1

/-- The result array: row `r` is the state after position `r / 16` of batch row `r % 16`. -/
def kOut : Vec Ideal S36864x2048 .bf16 := fun i => kh m c ((i 0).val / 16 + 1) ⟨(i 0).val % 16, Nat.mod_lt _ (by decide)⟩ (i 1)

/-- After the launch the result array holds the states of all rows. -/
theorem final10 : (dats m 0 c).arrAt 10 (cfgs 0).N = kOut m c := by
  refine (dats m 0 c).arrAt_eq_of_covers 10 _ (by decide +kernel) fun t hf y => ?_
  blk_simp
  rw [after0_10]
  obtain ⟨r, w, rfl⟩ : ∃ (r : Fin 256) (w : Fin 2048), y = ix2 r w := ⟨y 0, y 1, eq_ix2 y⟩
  have ht : t.val < 144 := t.isLt
  have e : (win0_10.blk t).view.emb (ix2 r w) = (ix2 (⟨256 * t.val + r.val, by omega⟩ : Fin 36864) w : S36864x2048.Idx) := by
    blk_ext [idx_in t]
  rw [e]
  refine ((points m c t.val t.isLt).2 r w).trans ?_
  show kh m c _ _ w = kh m c ((256 * t.val + r.val) / 16 + 1) ⟨(256 * t.val + r.val) % 16, _⟩ w
  rw [show 16 * t.val + r.val / 16 + 1 = (256 * t.val + r.val) / 16 + 1 by omega]
  exact congrArg (fun q => kh m c _ q w) (Fin.ext (by show r.val % 16 = _ % 16; omega))
end Cert.Proof.Rg
-- ==== Proof.RgRef.lean ====
/-
  The reference's arrays read at an index: the two convolutions, the gates, the log of the decay, and the coefficients the
  recurrence is run with.
-/
module

public import proofs.«01_k».proof.Proof.RgMath
public import proofs.«01_k».proof.Proof.Gen.ReferenceIdeal.Run
public import Idealize.ShloMosaic.Lib.StableHlo.ReadAt
public import Idealize.ShloMosaic.Lib.Pipeline.ValueKit

@[expose] public section

set_option maxRecDepth 16384
noncomputable section
namespace Cert.Proof.RgRef
open Cert.ReferenceIdeal Cert.ReferenceIdeal.Gen Cert.ReferenceIdeal.Value Idealize.ShloMosaic Idealize.ShloMosaic.TcCoe Idealize.SL.Sem Idealize.ShloMosaic.StableHlo

open Cert.Proof.Rg

variable (m : (ℓ : Loc nD τ sig) → Buf (Elt Ideal) ℓ) (c : Dev nD)

/-! ## What each stretch of host operations leaves -/
section Stretch
variable (V : Valuation τ sig (Elt Ideal))

/-- The latent stream's convolution at an index. -/
theorem conv_lat (x : S16x2051x2048.Idx → EReal) (hx : V (Proc.devRef .tc main_v0) = x) (k : S4x2048.Idx → EReal) (hk : V (Proc.devRef .tc main_arg2) = k)
    (a : S2048.Idx → EReal) (ha : V (Proc.devRef .tc main_arg3) = a) (b : Fin 16) (p w : Fin 2048) :
    after hostOps0_2 V (Proc.devRef .tc main_v30) (ix3 b p w)
      = x (ix3 b ⟨p.val, by omega⟩ w) * k (ix2 0 w) + x (ix3 b ⟨1 + p.val, by omega⟩ w) * k (ix2 1 w) + x (ix3 b ⟨2 + p.val, by omega⟩ w) * k (ix2 2 w)
        + x (ix3 b ⟨3 + p.val, by omega⟩ w) * k (ix2 3 w) + a (ix1 w) := by
  after_reads_at
  rw [hx, hk, ha]

/-- The context stream's convolution at an index. -/
theorem conv_ctx (x : S16x259x2048.Idx → EReal) (hx : V (Proc.devRef .tc main_v31) = x) (k : S4x2048.Idx → EReal) (hk : V (Proc.devRef .tc main_arg2) = k)
    (a : S2048.Idx → EReal) (ha : V (Proc.devRef .tc main_arg3) = a) (b : Fin 16) (p : Fin 256) (w : Fin 2048) :
    after hostOps0_4 V (Proc.devRef .tc main_v61) (ix3 b p w)
      = x (ix3 b ⟨p.val, by omega⟩ w) * k (ix2 0 w) + x (ix3 b ⟨1 + p.val, by omega⟩ w) * k (ix2 1 w) + x (ix3 b ⟨2 + p.val, by omega⟩ w) * k (ix2 2 w)
        + x (ix3 b ⟨3 + p.val, by omega⟩ w) * k (ix2 3 w) + a (ix1 w) := by
  after_reads_at
  rw [hx, hk, ha]

/-- The value the streams are padded with. -/
theorem pad_value : (FloatOps.sitofp (F := Ideal) .f32 (0#32 : BitVec 32) : EReal) = 0 := by
  show (((0#32 : BitVec 32).toInt : ℝ) : EReal) = 0
  norm_num

/-- The latent stream between its zeros. -/
theorem pad_lat (hc : V (Proc.devRef .tc main_c) = fun _ => (0#32 : BitVec 32)) (x : S16x2048x2048.Idx → EReal) (hx : V (Proc.devRef .tc main_arg1) = x)
    (b : Fin 16) (p : Fin 2051) (w : Fin 2048) :
    after hostOps0_1 V (Proc.devRef .tc main_v0) (ix3 b p w)
      = if h : 2 ≤ p.val ∧ p.val - 2 < 2048 then x (ix3 b ⟨p.val - 2, h.2⟩ w) else (0 : EReal) := by
  after_reads_at
  rw [hc, hx]
  refine dite_congr rfl (fun _ => rfl) fun _ => pad_value

/-- The context stream between its zeros. -/
theorem pad_ctx (hc : V (Proc.devRef .tc main_c_0) = fun _ => (0#32 : BitVec 32)) (x : S16x256x2048.Idx → EReal) (hx : V (Proc.devRef .tc main_arg0) = x)
    (b : Fin 16) (p : Fin 259) (w : Fin 2048) :
    after hostOps0_3 V (Proc.devRef .tc main_v31) (ix3 b p w)
      = if h : 2 ≤ p.val ∧ p.val - 2 < 256 then x (ix3 b ⟨p.val - 2, h.2⟩ w) else (0 : EReal) := by
  after_reads_at
  rw [hc, hx]
  refine dite_congr rfl (fun _ => rfl) fun _ => pad_value

/-- The latent stream is padded with the integer zero, made a float. -/
theorem c_zero : after hostOps0 V (Proc.devRef .tc main_c) = fun _ => (0#32 : BitVec 32) := by
  after_reads_simp
  rfl

/-- So is the context stream. -/
theorem c0_zero : after hostOps0_2 V (Proc.devRef .tc main_c_0) = fun _ => (0#32 : BitVec 32) := by
  after_reads_simp
  rfl

/-- The convolved streams end to end. -/
theorem u_eq (b : Fin 16) (P : Fin 2304) (w : Fin 2048) (y : S16x256x2048.Idx → EReal) (hy : after hostOps0_4 V (Proc.devRef .tc main_v61) = y)
    (z : S16x2048x2048.Idx → EReal) (hz : V (Proc.devRef .tc main_v30) = z) :
    after hostOps0_4 V (Proc.devRef .tc main_v63) (ix3 b P w) = if h : P.val < 256 then y (ix3 b ⟨P.val, h⟩ w) else z (ix3 b ⟨P.val - 256, by omega⟩ w) := by
  have e : after hostOps0_4 V (Proc.devRef .tc main_v63) = concatenate S16x2304x2048 1 [⟨S16x256x2048, y⟩, ⟨S16x2048x2048, z⟩] concatenates_S16x256x2048_S16x2048x2048_S16x2304x2048_d1 := by
    rw [← hy, ← hz]
    after_results
  rw [e]
  pointwise

/-- A gate: one over one plus the exponential of minus its argument, head by head. -/
def gateT (wg : FVec Ideal S8x256x256 .f32) (u : FVec Ideal S16x2304x2048 .f32) (bg : FVec Ideal S2048 .f32) : FVec Ideal S16x2304x2048 .f32 :=
  Host.divf (broadcastInDim S16x2304x2048 ![] bcast_S_S16x2304x2048 (constant S_ .f32 0x3F800000#32))
    (addf (broadcastInDim S16x2304x2048 ![] bcast_S_S16x2304x2048 (constant S_ .f32 0x3F800000#32))
      (Host.exp (Host.negf (addf
        (shapeCast S16x2304x2048 (transpose S16x2304x8x256 [2, 3, 0, 1] (Host.dotGeneral dot_S8x256x256_S16x2304x8x256_S8x256x16x2304_1_3_2_01_0_2 none wg
          (shapeCast S16x2304x8x256 u shapeCasts_S16x2304x2048_S16x2304x8x256)) transposes_S8x256x16x2304_S16x2304x8x256_2_3_0_1) shapeCasts_S16x2304x8x256_S16x2304x2048)
        (broadcastInDim S16x2304x2048 ![0, 1, 2] bcast_S1x1x2048_S16x2304x2048_0_1_2 (broadcastInDim S1x1x2048 ![2] bcast_S2048_S1x1x2048_2 bg))))))

/-- A gate's argument read at an index. -/
theorem gateT_apply (wg : FVec Ideal S8x256x256 .f32) (u : FVec Ideal S16x2304x2048 .f32) (bg : FVec Ideal S2048 .f32) (b : Fin 16) (P : Fin 2304) (w : Fin 2048) :
    gateT wg u bg (ix3 b P w) = Ideal.logistic ((∑ k : Fin 256, u (ix3 b P (chan (hd w) k)) * wg (ix3 (hd w) k (lane w))) + bg (ix1 w)) := by
  unfold gateT
  pointwise
  refine congrArg Ideal.logistic (congrArg (· + bg (ix1 w)) (Finset.sum_congr rfl fun k _ => ?_))
  rw [mul_comm]
  exact congrArg₂ (· * ·) (congrArg (fun q => u (ix3 b P q)) (Fin.ext (by show w.val / 256 * 256 + k.val = 256 * (w.val / 256) + k.val; omega))) rfl

/-- The recurrence gate over both streams. -/
theorem r_eq (wg : S8x256x256.Idx → EReal) (hw : V (Proc.devRef .tc main_arg4) = wg) (u : S16x2304x2048.Idx → EReal) (hu : after hostOps0_4 V (Proc.devRef .tc main_v63) = u)
    (bg : S2048.Idx → EReal) (hb : V (Proc.devRef .tc main_arg5) = bg) :
    after hostOps0_4 V (Proc.devRef .tc main_v90) = (mulf (broadcastInDim S16x2304x2048 ![] bcast_S_S16x2304x2048 (constant S_ .f32 0x41000000#32))
      (gateT wg u bg) : FVec Ideal S16x2304x2048 .f32) := by
  unfold gateT
  rw [← hw, ← hu, ← hb]
  after_results
  rfl

/-- The input gate over both streams. -/
theorem i_eq (wg : S8x256x256.Idx → EReal) (hw : V (Proc.devRef .tc main_arg6) = wg) (u : S16x2304x2048.Idx → EReal) (hu : after hostOps0_4 V (Proc.devRef .tc main_v63) = u)
    (bg : S2048.Idx → EReal) (hb : V (Proc.devRef .tc main_arg7) = bg) :
    after hostOps0_4 V (Proc.devRef .tc main_v88) = gateT wg u bg := by
  unfold gateT
  rw [← hw, ← hu, ← hb]
  after_results
  rfl

/-- The decay parameter negated. -/
theorem neg_lam (l : S2048.Idx → EReal) (hl : V (Proc.devRef .tc main_arg8) = l) (w : Fin 2048) : after hostOps0_4 V (Proc.devRef .tc main_v91) (ix1 w) = -l (ix1 w) := by
  after_reads_at
  rw [hl]

/-- The word of 2. -/
theorem two_bits : Ideal.ofBits .f32 0x40000000#32 = (2 : EReal) := by
  simp [Ideal.ofBits, Ideal.ieee, -EReal.coe_mul]; try norm_num
  try rfl

/-- The word of 8. -/
theorem eight_bits : Ideal.ofBits .f32 0x41000000#32 = (8 : EReal) := by
  simp [Ideal.ofBits, Ideal.ieee, -EReal.coe_mul]; norm_num; try rfl

/-- The decay's gate, scaled. -/
theorem r_apply (g : FVec Ideal S16x2304x2048 .f32) (i : S16x2304x2048.Idx) :
    (mulf (broadcastInDim S16x2304x2048 ![] bcast_S_S16x2304x2048 (constant S_ .f32 0x41000000#32)) g : FVec Ideal S16x2304x2048 .f32) i = (8 : EReal) * g i := by
  show Ideal.ofBits .f32 0x41000000#32 * g i = _
  rw [eight_bits]

/-- The scan starts from zero. -/
theorem zero_state (b : Fin 16) (w : Fin 2048) : after hostOps0_4 V (Proc.devRef .tc main_v62) (ix2 b w) = (0 : EReal) := by
  after_reads_at

/-- The softplus that the reference takes. -/
theorem soft (l : S2048.Idx → EReal) (hl : V (Proc.devRef .tc main_v91) = l) (w : Fin 2048) :
    after hostOps0_5 V (Proc.devRef .tc main_v92) (ix1 w) = max (l (ix1 w)) 0 + Ideal.log1p (Ideal.exp (-(max (l (ix1 w)) (-l (ix1 w))))) := by
  after_reads_at
  rw [hl]
  exact if_neg (fun h => h rfl)

/-- The decays, with positions in front. -/
theorem carA (r : S16x2304x2048.Idx → EReal) (hr : V (Proc.devRef .tc main_v90) = r) (s : S2048.Idx → EReal) (hs : V (Proc.devRef .tc main_v92) = s)
    (P : Fin 2304) (b : Fin 16) (w : Fin 2048) :
    after hostOps0_6 V (Proc.devRef .tc main_v108_0) (ix3 P b w) = Ideal.exp (r (ix3 b P w) * -s (ix1 w)) := by
  after_reads_at
  dsimp only [id]
  pointwise
  rw [hr, hs]

/-- The inputs, with positions in front. -/
theorem carB (r : S16x2304x2048.Idx → EReal) (hr : V (Proc.devRef .tc main_v90) = r) (s : S2048.Idx → EReal) (hs : V (Proc.devRef .tc main_v92) = s)
    (g : S16x2304x2048.Idx → EReal) (hg : V (Proc.devRef .tc main_v88) = g) (u : S16x2304x2048.Idx → EReal) (hu : V (Proc.devRef .tc main_v63) = u)
    (P : Fin 2304) (b : Fin 16) (w : Fin 2048) :
    after hostOps0_6 V (Proc.devRef .tc main_v108_1) (ix3 P b w)
      = Ideal.sqrt (-(Ideal.exp (2 * (r (ix3 b P w) * -s (ix1 w))) - 1)) * (g (ix3 b P w) * u (ix3 b P w)) := by
  after_reads_at
  dsimp only [id]
  pointwise
  rw [hr, hs, hg, hu, two_bits]

/-- The results that the loop fills start as zeros. -/
theorem carS :
    after hostOps0_6 V (Proc.devRef .tc main_v108_3) = V (Proc.devRef .tc main_v62) := by
  after_reads_simp
  rfl
end Stretch

/-! ## What the launch's memory makes of them -/

/-- The buffers' contents before each stretch. -/
def W0 : Valuation τ sig (Elt Ideal) := fun b => m (c, b)
/-- The contents after one stretch. -/
def W1 : Valuation τ sig (Elt Ideal) := after hostOps0 (W0 m c)
/-- The contents after two stretches. -/
def W2 : Valuation τ sig (Elt Ideal) := after hostOps0_1 (W1 m c)
/-- The contents after three stretches. -/
def W3 : Valuation τ sig (Elt Ideal) := after hostOps0_2 (W2 m c)
/-- The contents after four stretches. -/
def W4 : Valuation τ sig (Elt Ideal) := after hostOps0_3 (W3 m c)
/-- The contents after five stretches. -/
def W5 : Valuation τ sig (Elt Ideal) := after hostOps0_4 (W4 m c)
/-- The contents after six stretches. -/
def W6 : Valuation τ sig (Elt Ideal) := after hostOps0_5 (W5 m c)
/-- The contents after seven stretches, where the loop starts. -/
def W7 : Valuation τ sig (Elt Ideal) := after hostOps0_6 (W6 m c)

/-- The loop starts from the contents after the seven stretches. -/
theorem entry_eq : entryContents preI m c = W7 m c := by
  simp only [entryContents, afterL_cons, afterL_nil]
  rfl

/-- The arguments' buffers. -/
abbrev args : List (Ref sig .tc) := [main_arg0, main_arg1, main_arg2, main_arg3, main_arg4, main_arg5, main_arg6, main_arg7, main_arg8]

/-- The first stretch leaves the arguments. -/
theorem W1_arg (r : Ref sig .tc) (h : r ∈ args) : W1 m c (Proc.devRef .tc r) = m ((c : Thread nD τ).loc r) :=
  after_of_writes_sub _ _ hostOps0_writes ((by decide : ∀ r ∈ args, r ∉ hostOps0_W) r h)
/-- Two stretches leave the arguments. -/
theorem W2_arg (r : Ref sig .tc) (h : r ∈ args) : W2 m c (Proc.devRef .tc r) = m ((c : Thread nD τ).loc r) :=
  (after_of_writes_sub _ _ hostOps0_1_writes ((by decide : ∀ r ∈ args, r ∉ hostOps0_1_W) r h)).trans (W1_arg m c r h)
/-- Three stretches leave the arguments. -/
theorem W3_arg (r : Ref sig .tc) (h : r ∈ args) : W3 m c (Proc.devRef .tc r) = m ((c : Thread nD τ).loc r) :=
  (after_of_writes_sub _ _ hostOps0_2_writes ((by decide : ∀ r ∈ args, r ∉ hostOps0_2_W) r h)).trans (W2_arg m c r h)
/-- Four stretches leave the arguments. -/
theorem W4_arg (r : Ref sig .tc) (h : r ∈ args) : W4 m c (Proc.devRef .tc r) = m ((c : Thread nD τ).loc r) :=
  (after_of_writes_sub _ _ hostOps0_3_writes ((by decide : ∀ r ∈ args, r ∉ hostOps0_3_W) r h)).trans (W3_arg m c r h)

/-- The sequence and the parameters the launch finds. -/
def rx : ℕ → Fin 16 → Fin 2048 → EReal :=
  xOf (fun b p w => m ((c : Thread nD τ).loc main_arg0) (ix3 b p w)) (fun b p w => m ((c : Thread nD τ).loc main_arg1) (ix3 b p w))
/-- The convolution's weights. -/
def rcw : Fin 4 → Fin 2048 → EReal := fun k w => m ((c : Thread nD τ).loc main_arg2) (ix2 k w)
/-- The convolution's bias. -/
def rcb : Fin 2048 → EReal := fun w => m ((c : Thread nD τ).loc main_arg3) (ix1 w)
/-- The recurrence gate's matrices. -/
def rwa : Fin 8 → Fin 256 → Fin 256 → EReal := fun h k l => m ((c : Thread nD τ).loc main_arg4) (ix3 h k l)
/-- The recurrence gate's bias. -/
def rba : Fin 2048 → EReal := fun w => m ((c : Thread nD τ).loc main_arg5) (ix1 w)
/-- The input gate's matrices. -/
def rwi : Fin 8 → Fin 256 → Fin 256 → EReal := fun h k l => m ((c : Thread nD τ).loc main_arg6) (ix3 h k l)
/-- The input gate's bias. -/
def rbi : Fin 2048 → EReal := fun w => m ((c : Thread nD τ).loc main_arg7) (ix1 w)
/-- The decay parameter. -/
def rlam : Fin 2048 → EReal := fun w => m ((c : Thread nD τ).loc main_arg8) (ix1 w)

/-- The padded latent stream holds the taps of the latent positions. -/
theorem tap_lat (k : ℕ) (hk : k < 4) (b : Fin 16) (p w : Fin 2048) (q : Fin 2051) (hq : q.val = k + p.val) :
    W2 m c (Proc.devRef .tc main_v0) (ix3 b q w) = tap (rx m c) k (256 + p.val) b w := by
  have hp := p.isLt
  refine (pad_lat (W1 m c) (c_zero (W0 m c)) (m ((c : Thread nD τ).loc main_arg1)) (W1_arg m c main_arg1 (by decide)) b q w).trans ?_
  have hin : InStream (256 + p.val) k ↔ 2 ≤ q.val ∧ q.val - 2 < 2048 := by
    unfold InStream; rw [if_neg (by omega)]; omega
  unfold tap
  by_cases h : 2 ≤ q.val ∧ q.val - 2 < 2048
  · rw [dif_pos h, if_pos (hin.mpr h)]
    unfold rx xOf
    rw [dif_neg (by omega), dif_pos (by omega)]
    exact congrArg (fun z => m ((c : Thread nD τ).loc main_arg1) (ix3 b z w)) (Fin.ext (by show q.val - 2 = 256 + p.val + k - 2 - 256; omega))
  · rw [dif_neg h, if_neg (fun e => h (hin.mp e))]

/-- The padded context stream holds the taps of the context positions. -/
theorem tap_ctx (k : ℕ) (hk : k < 4) (b : Fin 16) (p : Fin 256) (w : Fin 2048) (q : Fin 259) (hq : q.val = k + p.val) :
    W4 m c (Proc.devRef .tc main_v31) (ix3 b q w) = tap (rx m c) k p.val b w := by
  have hp := p.isLt
  refine (pad_ctx (W3 m c) (c0_zero (W2 m c)) (m ((c : Thread nD τ).loc main_arg0)) (W3_arg m c main_arg0 (by decide)) b q w).trans ?_
  have hin : InStream p.val k ↔ 2 ≤ q.val ∧ q.val - 2 < 256 := by
    unfold InStream; rw [if_pos hp]; omega
  unfold tap
  by_cases h : 2 ≤ q.val ∧ q.val - 2 < 256
  · rw [dif_pos h, if_pos (hin.mpr h)]
    unfold rx xOf
    rw [dif_pos (by omega)]
    exact congrArg (fun z => m ((c : Thread nD τ).loc main_arg0) (ix3 b z w)) (Fin.ext (by show q.val - 2 = p.val + k - 2; omega))
  · rw [dif_neg h, if_neg (fun e => h (hin.mp e))]

/-- The order of the convolution's terms. -/
theorem conv_order (t0 t1 t2 t3 k0 k1 k2 k3 a : EReal) :
    t0 * k0 + t1 * k1 + t2 * k2 + t3 * k3 + a = a + k0 * t0 + k1 * t1 + k2 * t2 + k3 * t3 := by
  rw [mul_comm t0, mul_comm t1, mul_comm t2, mul_comm t3, add_comm _ a]
  simp only [add_assoc]

/-- The latents' convolution. -/
theorem lat_at (b : Fin 16) (p w : Fin 2048) : W3 m c (Proc.devRef .tc main_v30) (ix3 b p w) = uAt (rx m c) (rcw m c) (rcb m c) (256 + p.val) b w := by
  refine (conv_lat (W2 m c) _ rfl (m ((c : Thread nD τ).loc main_arg2)) (W2_arg m c main_arg2 (by decide)) (m ((c : Thread nD τ).loc main_arg3)) (W2_arg m c main_arg3 (by decide)) b p w).trans ?_
  rw [tap_lat m c 0 (by decide) b p w _ (Nat.zero_add _).symm, tap_lat m c 1 (by decide) b p w _ rfl, tap_lat m c 2 (by decide) b p w _ rfl, tap_lat m c 3 (by decide) b p w _ rfl]
  exact conv_order _ _ _ _ _ _ _ _ _

/-- The context's convolution. -/
theorem ctx_at (b : Fin 16) (p : Fin 256) (w : Fin 2048) : W5 m c (Proc.devRef .tc main_v61) (ix3 b p w) = uAt (rx m c) (rcw m c) (rcb m c) p.val b w := by
  refine (conv_ctx (W4 m c) _ rfl (m ((c : Thread nD τ).loc main_arg2)) (W4_arg m c main_arg2 (by decide)) (m ((c : Thread nD τ).loc main_arg3)) (W4_arg m c main_arg3 (by decide)) b p w).trans ?_
  rw [tap_ctx m c 0 (by decide) b p w _ (Nat.zero_add _).symm, tap_ctx m c 1 (by decide) b p w _ rfl, tap_ctx m c 2 (by decide) b p w _ rfl, tap_ctx m c 3 (by decide) b p w _ rfl]
  exact conv_order _ _ _ _ _ _ _ _ _

/-- The convolved sequence. -/
theorem u_at (b : Fin 16) (P : Fin 2304) (w : Fin 2048) : W5 m c (Proc.devRef .tc main_v63) (ix3 b P w) = uAt (rx m c) (rcw m c) (rcb m c) P.val b w := by
  have hz : W4 m c (Proc.devRef .tc main_v30) = W3 m c (Proc.devRef .tc main_v30) := after_of_writes_sub _ _ hostOps0_3_writes (by decide)
  refine (u_eq (W4 m c) b P w _ rfl _ hz).trans ?_
  by_cases h : P.val < 256
  · rw [dif_pos h]; exact ctx_at m c b ⟨P.val, h⟩ w
  · rw [dif_neg h]
    refine (lat_at m c b ⟨P.val - 256, by omega⟩ w).trans ?_
    show uAt _ _ _ (256 + (P.val - 256)) b w = _
    rw [show 256 + (P.val - 256) = P.val by omega]

/-- The gate at an index, over the convolved sequence. -/
theorem gate_at (wg : S8x256x256.Idx → EReal) (bg : S2048.Idx → EReal) (b : Fin 16) (P : Fin 2304) (w : Fin 2048) :
    gateT wg (W5 m c (Proc.devRef .tc main_v63)) bg (ix3 b P w)
      = Ideal.logistic (gAt (uAt (rx m c) (rcw m c) (rcb m c)) (fun h k l => wg (ix3 h k l)) (fun w => bg (ix1 w)) P.val b w) := by
  rw [gateT_apply]
  refine congrArg Ideal.logistic (congrArg (· + bg (ix1 w)) (Finset.sum_congr rfl fun k _ => ?_))
  exact congrArg (· * _) (u_at m c b P _)

/-- The recurrence gate at a position of the joined streams. -/
theorem r_at (b : Fin 16) (P : Fin 2304) (w : Fin 2048) : W6 m c (Proc.devRef .tc main_v90) (ix3 b P w)
    = 8 * Ideal.logistic (gAt (uAt (rx m c) (rcw m c) (rcb m c)) (rwa m c) (rba m c) P.val b w) := by
  have e : W6 m c (Proc.devRef .tc main_v90) = W5 m c (Proc.devRef .tc main_v90) := after_of_writes_sub _ _ hostOps0_5_writes (by decide)
  rw [e]
  refine (congrFun (r_eq (W4 m c) (m ((c : Thread nD τ).loc main_arg4)) (W4_arg m c main_arg4 (by decide)) _ rfl (m ((c : Thread nD τ).loc main_arg5)) (W4_arg m c main_arg5 (by decide))) _).trans ?_
  refine (r_apply _ _).trans (congrArg (8 * ·) ?_)
  exact gate_at m c _ _ b P w

/-- The input gate at a position of the joined streams. -/
theorem i_at (b : Fin 16) (P : Fin 2304) (w : Fin 2048) : W6 m c (Proc.devRef .tc main_v88) (ix3 b P w)
    = Ideal.logistic (gAt (uAt (rx m c) (rcw m c) (rcb m c)) (rwi m c) (rbi m c) P.val b w) := by
  have e : W6 m c (Proc.devRef .tc main_v88) = W5 m c (Proc.devRef .tc main_v88) := after_of_writes_sub _ _ hostOps0_5_writes (by decide)
  rw [e]
  refine (congrFun (i_eq (W4 m c) (m ((c : Thread nD τ).loc main_arg6)) (W4_arg m c main_arg6 (by decide)) _ rfl (m ((c : Thread nD τ).loc main_arg7)) (W4_arg m c main_arg7 (by decide))) _).trans ?_
  exact gate_at m c _ _ b P w

/-- Minus the softplus of minus the argument is its log of the logistic. -/
theorem lsig_at (w : Fin 2048) (s : EReal) (hs : s = W6 m c (Proc.devRef .tc main_v92) (ix1 w)) : -s = lsig (rlam m c w) := by
  rw [hs]
  refine (congrArg (fun z : EReal => -z) (soft (W5 m c) _ rfl w)).trans ?_
  have e := neg_lam (W4 m c) (m ((c : Thread nD τ).loc main_arg8)) (W4_arg m c main_arg8 (by decide)) w
  have key : ∀ q : EReal, q = -rlam m c w → -(max q 0 + Ideal.log1p (Ideal.exp (-(max q (-q))))) = lsig (rlam m c w) := by
    rintro _ rfl
    exact lsig_eq _
  exact key _ e

/-- The logarithm of the decay. -/
theorem la_at (b : Fin 16) (P : Fin 2304) (w : Fin 2048) (r s : EReal) (hr : r = W6 m c (Proc.devRef .tc main_v90) (ix3 b P w))
    (hs : s = W6 m c (Proc.devRef .tc main_v92) (ix1 w)) : r * -s = laAt (rx m c) (rcw m c) (rcb m c) (rwa m c) (rba m c) (rlam m c) P.val b w := by
  rw [lsig_at m c w s hs, hr, r_at]; rfl

/-- The decays. -/
theorem A_at (P : Fin 2304) (b : Fin 16) (w : Fin 2048) : W7 m c (Proc.devRef .tc main_v108_0) (ix3 P b w)
    = Ideal.exp (laAt (rx m c) (rcw m c) (rcb m c) (rwa m c) (rba m c) (rlam m c) P.val b w) :=
  (carA (W6 m c) _ rfl _ rfl P b w).trans (congrArg Ideal.exp (la_at m c b P w _ _ rfl rfl))

/-- The input terms. -/
theorem B_at (P : Fin 2304) (b : Fin 16) (w : Fin 2048) : W7 m c (Proc.devRef .tc main_v108_1) (ix3 P b w)
    = bAt (rx m c) (rcw m c) (rcb m c) (rwa m c) (rwi m c) (rba m c) (rbi m c) (rlam m c) P.val b w := by
  refine (carB (W6 m c) _ rfl _ rfl _ rfl _ rfl P b w).trans ?_
  have eu : W6 m c (Proc.devRef .tc main_v63) = W5 m c (Proc.devRef .tc main_v63) := after_of_writes_sub _ _ hostOps0_5_writes (by decide)
  rw [la_at m c b P w _ _ rfl rfl, i_at, eu, u_at, ← gap_eq]
  rfl

/-- The state the recurrence starts from. -/
theorem S_at (b : Fin 16) (w : Fin 2048) : W7 m c (Proc.devRef .tc main_v108_3) (ix2 b w) = (0 : EReal) := by
  have e : W6 m c (Proc.devRef .tc main_v62) = W5 m c (Proc.devRef .tc main_v62) := after_of_writes_sub _ _ hostOps0_5_writes (by decide)
  exact (congrFun ((carS (W6 m c)).trans e) _).trans (zero_state (W4 m c) b w)
end Cert.Proof.RgRef
-- ==== Proof.RgLoop.lean ====
/-
  The reference's loop: after `k` trips its carried state is the recurrence's state after `k` positions, and the rows it has
  written are the states at those positions.
-/
module

public import proofs.«01_k».proof.Proof.RgRef
public import Idealize.ShloMosaic.Lib.WordCmp

@[expose] public section

set_option maxRecDepth 16384
noncomputable section
namespace Cert.Proof.RgRef
open Cert.ReferenceIdeal Cert.ReferenceIdeal.Gen Cert.ReferenceIdeal.Value Idealize.ShloMosaic Idealize.ShloMosaic.TcCoe Idealize.SL.Sem Idealize.ShloMosaic.StableHlo
open Cert.Proof.Rg

/-- A row of the sequence of states lies inside it. -/
theorem row_fits (k : ℕ) (hk : k < 2304) : S2304x16x2048.Slices ![k, 0, 0] S1x16x2048 := by
  refine ⟨rfl, fun a => ?_⟩
  match a with
  | ⟨0, _⟩ => show k + 1 ≤ 2304; omega
  | ⟨1, _⟩ => show 0 + 16 ≤ 16; omega
  | ⟨2, _⟩ => show 0 + 2048 ≤ 2048; omega

/-- The trip's start words are its number and zeros. -/
theorem starts (k : ℕ) (hk : k < 2304) (ctr : IVec S_ 32) (hc : ctr = fun _ => BitVec.ofNat 32 k) (a : Fin 3) :
    ((![ctr, constantI S_ 32 0#32, constantI S_ 32 0#32] : Fin 3 → IVec S_ 32) a (Shape.Idx.first h_S_)).toInt = ((![k, 0, 0] : Fin 3 → ℕ) a : Int) := by
  subst hc
  match a with
  | ⟨0, _⟩ => exact WordCmp.toInt_ofNat_of_lt (by omega)
  | ⟨1, _⟩ => rfl
  | ⟨2, _⟩ => rfl

/-- A row read off a sequence at a start word. -/
theorem slice_at (k : ℕ) (hk : k < 2304) (x : S2304x16x2048.Idx → EReal) (start : Fin 3 → Int) (h : S2304x16x2048.Slices (fun _ => 0) S1x16x2048)
    (e : ∀ a, start a = ((![k, 0, 0] : Fin 3 → ℕ) a : Int)) (b : Fin 16) (w : Fin 2048) :
    shapeCast S16x2048 (Host.dynamicSlice S1x16x2048 x start h) shapeCasts_S1x16x2048_S16x2048 (ix2 b w) = x (ix3 ⟨k, hk⟩ b w) := by
  rw [WordCmp.dynamicSlice_eq_extract S1x16x2048 x start h ![k, 0, 0] (row_fits k hk) e]
  pointwise

/-- A row written into a sequence at a start word. -/
theorem update_at (k : ℕ) (hk : k < 2304) (x : S2304x16x2048.Idx → EReal) (u : S1x16x2048.Idx → EReal) (start : Fin 3 → Int)
    (h : S2304x16x2048.Slices (fun _ => 0) S1x16x2048)
    (e : ∀ a, start a = ((![k, 0, 0] : Fin 3 → ℕ) a : Int)) (P : Fin 2304) (b : Fin 16) (w : Fin 2048) :
    Host.dynamicUpdateSlice x u start h (ix3 P b w) = if P.val = k then u (ix3 0 b w) else x (ix3 P b w) := by
  rw [WordCmp.dynamicUpdateSlice_eq_update x u start h ![k, 0, 0] (row_fits k hk) e]
  pointwise
  by_cases hp : P.val = k
  · rw [if_pos hp, dif_pos ⟨by omega, by omega⟩]
    exact congrArg (fun q : Fin 1 => u (ix3 q b w)) (Subsingleton.elim _ _)
  · rw [if_neg hp, dif_neg (by omega)]

section Trip
variable (V : Valuation τ sig (Elt Ideal)) (k : ℕ) (hk : k < 2304) (hc : V (Proc.devRef .tc main_v108_2) = fun _ => (BitVec.ofNat 32 k : BitVec 32))
  (A : S2304x16x2048.Idx → EReal) (hA : V (Proc.devRef .tc main_v108_0) = A) (B : S2304x16x2048.Idx → EReal) (hB : V (Proc.devRef .tc main_v108_1) = B)
  (s : S16x2048.Idx → EReal) (hs : V (Proc.devRef .tc main_v108_3) = s) (ys : S2304x16x2048.Idx → EReal) (hy : V (Proc.devRef .tc main_v108_4) = ys)

include hc hA hB hs in
/-- One trip's new state. -/
theorem trip_state (b : Fin 16) (w : Fin 2048) : res_main_while0b_v114 V (ix2 b w) = A (ix3 ⟨k, hk⟩ b w) * s (ix2 b w) + B (ix3 ⟨k, hk⟩ b w) := by
  unfold res_main_while0b_v114
  rw [hA, hB, hs]
  exact congrArg₂ (fun p q : EReal => p * s (ix2 b w) + q) (slice_at k hk A _ _ (starts k hk _ hc) b w) (slice_at k hk B _ _ (starts k hk _ hc) b w)

include hk hc hy in
/-- One trip writes its new state at its row. -/
theorem trip_rows (P : Fin 2304) (b : Fin 16) (w : Fin 2048) :
    step_main_v108_4 V (ix3 P b w) = if P.val = k then res_main_while0b_v114 V (ix2 b w) else ys (ix3 P b w) := by
  unfold step_main_v108_4
  rw [hy]
  generalize res_main_while0b_v114 V = z
  refine (update_at k hk ys _ _ _ (starts k hk _ hc) P b w).trans ?_
  refine congrArg (fun q : EReal => if P.val = k then q else ys (ix3 P b w)) ?_
  pointwise
end Trip

variable (m : (ℓ : Loc nD τ sig) → Buf (Elt Ideal) ℓ) (c : Dev nD)

/-- The recurrence's state before position `n`, over what the launch finds. -/
def rh (n : ℕ) (b : Fin 16) (w : Fin 2048) : EReal :=
  hAt (rx m c) (rcw m c) (rcb m c) (rwa m c) (rwi m c) (rba m c) (rbi m c) (rlam m c) n b w

/-- What the carried buffers hold after `k` trips. -/
structure Inv (k : ℕ) (V : Valuation τ sig (Elt Ideal)) : Prop where
  ctr : V (Proc.devRef .tc main_v108_2) = fun _ => (BitVec.ofNat 32 k : BitVec 32)
  decays : V (Proc.devRef .tc main_v108_0) = W7 m c (Proc.devRef .tc main_v108_0)
  inputs : V (Proc.devRef .tc main_v108_1) = W7 m c (Proc.devRef .tc main_v108_1)
  state : ∀ (b : Fin 16) (w : Fin 2048), V (Proc.devRef .tc main_v108_3) (ix2 b w) = rh m c k b w
  rows : ∀ (P : Fin 2304) (b : Fin 16) (w : Fin 2048), P.val < k → V (Proc.devRef .tc main_v108_4) (ix3 P b w) = rh m c (P.val + 1) b w

/-- One trip takes the recurrence one position on. -/
theorem inv_step (k : ℕ) (hk : k < 2304) (V : Valuation τ sig (Elt Ideal)) (H : Inv m c k V) : Inv m c (k + 1) (STEP V) := by
  have hst : ∀ (b : Fin 16) (w : Fin 2048), res_main_while0b_v114 V (ix2 b w) = rh m c (k + 1) b w := fun b w => by
    refine (trip_state V k hk H.ctr _ H.decays _ H.inputs _ rfl b w).trans ?_
    rw [A_at, B_at, H.state]
    rfl
  refine ⟨?_, ?_, ?_, ?_, ?_⟩
  · rw [STEP_main_v108_2]
    unfold step_main_v108_2
    rw [H.ctr]
    exact funext fun _ => BitVec.ofNat_add k 1 |>.symm
  · rw [STEP_main_v108_0]; exact H.decays
  · rw [STEP_main_v108_1]; exact H.inputs
  · intro b w; rw [STEP_main_v108_3]; exact hst b w
  · intro P b w hP
    rw [STEP_main_v108_4]
    refine (trip_rows V k hk H.ctr _ rfl P b w).trans ?_
    by_cases h : P.val = k
    · rw [if_pos h, hst, h]
    · rw [if_neg h]; exact H.rows P b w (by omega)

/-- After `k` trips. -/
theorem inv_iter : ∀ (k : ℕ), k ≤ 2304 → Inv m c k (STEP^[k] (entryContents preI m c))
  | 0, _ => by
    rw [Function.iterate_zero, id]
    refine ⟨ctr_entry m c, by rw [entry_eq], by rw [entry_eq], fun b w => ?_, fun P b w hP => absurd hP (Nat.not_lt_zero _)⟩
    rw [entry_eq]; exact S_at m c b w
  | k + 1, h => by
    rw [Function.iterate_succ_apply']
    exact inv_step m c k (by omega) _ (inv_iter k (by omega))

/-- The result at an index: row `r` is the state after position `r / 16` of batch row `r % 16`. -/
theorem out_at (r : Fin 36864) (w : Fin 2048) : out_main_v110 (STEP^[2304] (entryContents preI m c)) (ix2 r w)
    = rh m c (r.val / 16 + 1) ⟨r.val % 16, Nat.mod_lt _ (by decide)⟩ w := by
  have H := (inv_iter m c 2304 (Nat.le_refl _)).rows
  generalize STEP^[2304] (entryContents preI m c) = V at H ⊢
  unfold out_main_v110
  have hr := r.isLt
  refine Eq.trans ?_ (H ⟨r.val / 16, by omega⟩ ⟨r.val % 16, Nat.mod_lt _ (by decide)⟩ w (by show r.val / 16 < 2304; omega))
  generalize V (Proc.devRef .tc main_v108_4) = ys
  pointwise
end Cert.Proof.RgRef
-- ==== Proof.InMath.lean ====
/-
  The input projection of the recurrent mixer at an index: a token's row normed and modulated, against a column of the
  weights, and the gate branch's GELU.
-/
module

public import Idealize.ShloMosaic.PureOps.Ideal

@[expose] public section

noncomputable section

namespace Cert.Proof.InMath

open Idealize.ShloMosaic

/-- A token's row over the root of its mean square (and the small constant), times the gain, modulated. -/
def normed (x g sh sc : Fin 2048 → EReal) (k : Fin 2048) : EReal :=
  x k * Ideal.rsqrt (Ideal.div (∑ j : Fin 2048, x j * x j) (Ideal.ofBits FTy.f32 0x45000000#32) + Ideal.ofBits FTy.f32 0x358637BD#32) * g k * (1 + sc k) + sh k

/-- The normed row against a column of the weights. -/
def proj (x g sh sc : Fin 2048 → EReal) (w : Fin 2048 → Fin 4096 → EReal) (f : Fin 4096) : EReal := ∑ k : Fin 2048, normed x g sh sc k * w k f

/-- GELU in its form by the hyperbolic tangent. -/
def gelu (z : EReal) : EReal :=
  z * (Ideal.ofBits FTy.f32 0x3F000000#32 * (1 + Ideal.tanh (Ideal.ofBits FTy.f32 0x3F4C422A#32 * (z + Ideal.ofBits FTy.f32 0x3D372713#32 * (z * (z * z))))))

/-- The cube may be taken in either order. -/
theorem gelu_comm (z : EReal) :
    z * (Ideal.ofBits FTy.f32 0x3F000000#32 * (1 + Ideal.tanh (Ideal.ofBits FTy.f32 0x3F4C422A#32 * (z + Ideal.ofBits FTy.f32 0x3D372713#32 * (z * z * z))))) = gelu z := by
  unfold gelu
  rw [mul_comm (z * z) z]

/-- The shift's columns and the scale's columns of a row of modulations. -/
def shiftOf (t : Fin 12288 → EReal) (k : Fin 2048) : EReal := t ⟨k.val, by omega⟩
/-- The scale's columns. -/
def scaleOf (t : Fin 12288 → EReal) (k : Fin 2048) : EReal := t ⟨2048 + k.val, by omega⟩

/-- Column `f` of the projection of position `P` of batch row `b`: positions 0 to 255 are the context's, under the one row of
    modulations of the context; 256 to 2303 are the latents', each batch row under its own. -/
def zAt (a0 : Fin 16 → Fin 256 → Fin 2048 → EReal) (a1 : Fin 16 → Fin 2048 → Fin 2048 → EReal) (g : Fin 2048 → EReal)
    (mc : Fin 12288 → EReal) (ml : Fin 16 → Fin 12288 → EReal) (w : Fin 2048 → Fin 4096 → EReal) (P : ℕ) (b : Fin 16) (f : Fin 4096) : EReal :=
  if h : P < 256 then proj (a0 b ⟨P, h⟩) g (shiftOf mc) (scaleOf mc) w f
  else if h' : P - 256 < 2048 then proj (a1 b ⟨P - 256, h'⟩) g (shiftOf (ml b)) (scaleOf (ml b)) w f else 0

end Cert.Proof.InMath

end
-- ==== Proof.InTile.lean ====
/- A block of the input projection's two results at an index. -/
module

public import proofs.«01_k».proof.Proof.Gen.Kernel3Ideal.Frame
public import proofs.«01_k».proof.Proof.InMath
public import Idealize.ShloMosaic.Lib.Pipeline.ValueKit

@[expose] public section

set_option maxRecDepth 16384
noncomputable section
namespace Cert.Proof.In
open Cert.Kernel3Ideal Cert.Kernel3Ideal.Gen Idealize.ShloMosaic Idealize.ShloMosaic.TcCoe Idealize.ShloMosaic.Tactic
open Cert.Proof.InMath

/-- A column chunk of the projected rows, before and after the gate's GELU. -/
theorem rec_at (h : FVec Ideal S512x2048 .bf16) (w : FVec Ideal S2048x512 .bf16) (r f : Fin 512) :
    (k0_pay2 (F := Ideal) h w : S512x512.Idx → EReal) (ix2 r f) = ∑ k : Fin 2048, h (ix2 r k) * w (ix2 k f) := by
  unfold k0_pay2
  pointwise

/-- The gate's chunk: GELU of the same. -/
theorem gate_at (h : FVec Ideal S512x2048 .bf16) (w : FVec Ideal S2048x512 .bf16) (r f : Fin 512) :
    (k0_pay17 (F := Ideal) h w : S512x512.Idx → EReal) (ix2 r f) = gelu (∑ k : Fin 2048, h (ix2 r k) * w (ix2 k f)) := by
  rw [← rec_at]
  unfold k0_pay17
  have e : ∀ z : FVec Ideal S512x512 .f32, matmul dot_S512x2048_S2048x512_S512x512_1_0_0_1_n_n none h (shapeCast S2048x512 w shapeCasts_S2048x512_S2048x512) (constant S512x512 FTy.f32 0x00000000#32) = z
      → z (ix2 r f) = (k0_pay2 (F := Ideal) h w : S512x512.Idx → EReal) (ix2 r f) := fun z hz => by subst hz; rfl
  generalize hz : matmul dot_S512x2048_S2048x512_S512x512_1_0_0_1_n_n none h _ _ = z
  rw [← e z hz]
  pointwise
  rfl

section
variable (x : FVec Ideal S512x2048 .f32) (g : FVec Ideal S1x2048 .f32) (sh sc : FVec Ideal S1x256x2048 .f32) (w : FVec Ideal S2048x4096 .bf16)

/-- A half of the block's rows, normed and modulated. -/
theorem half_at (x : FVec Ideal S256x2048 .f32) (r : Fin 256) (k : Fin 2048) : (k0_pay6 (F := Ideal) x g sh sc : S256x2048.Idx → EReal) (ix2 r k)
    = normed (fun j => x (ix2 r j)) (fun j => g (ix2 0 j)) (fun j => sh (ix3 0 r j)) (fun j => sc (ix3 0 r j)) k := by
  unfold k0_pay6
  pointwise
  rfl

/-- The block's rows are its two halves, normed alike. -/
theorem rows_eq : k0_pay26 (F := Ideal) x g sh sc w = (truncf .bf16 (concatenate S512x2048 0
    [⟨S256x2048, k0_pay6 (F := Ideal) (View.ld x r0_0) (View.ld g r0_1) (View.ld sh r0_2) (View.ld sc r0_2)⟩,
     ⟨S256x2048, k0_pay6 (F := Ideal) (View.ld x r0_3) (View.ld g r0_1) (View.ld sh r0_2) (View.ld sc r0_2)⟩]
    concatenates_S256x2048_S256x2048_S512x2048_d0) bitsLt_bf16_f32 : FVec Ideal S512x2048 .bf16) := rfl

/-- A row of the block, normed and modulated. -/
def hrow (r : Fin 512) (k : Fin 2048) : EReal :=
  normed (fun j => x (ix2 r j)) (fun j => g (ix2 0 j)) (fun j => sh (ix3 0 (⟨r.val % 256, by omega⟩ : Fin 256) j)) (fun j => sc (ix3 0 (⟨r.val % 256, by omega⟩ : Fin 256) j)) k

/-- The block's rows at an index. -/
theorem rows_at (r : Fin 512) (k : Fin 2048) : (k0_pay26 (F := Ideal) x g sh sc w : S512x2048.Idx → EReal) (ix2 r k) = hrow x g sh sc r k := by
  rw [rows_eq]
  have h1 := half_at (View.ld (Val := Elt Ideal) (e' := .f32) g r0_1) (View.ld (Val := Elt Ideal) (e' := .f32) sh r0_2) (View.ld (Val := Elt Ideal) (e' := .f32) sc r0_2) (View.ld (Val := Elt Ideal) (e' := .f32) x r0_0)
  have h2 := half_at (View.ld (Val := Elt Ideal) (e' := .f32) g r0_1) (View.ld (Val := Elt Ideal) (e' := .f32) sh r0_2) (View.ld (Val := Elt Ideal) (e' := .f32) sc r0_2) (View.ld (Val := Elt Ideal) (e' := .f32) x r0_3)
  generalize k0_pay6 (F := Ideal) (View.ld x r0_0) _ _ _ = A at h1 ⊢
  generalize k0_pay6 (F := Ideal) (View.ld x r0_3) _ _ _ = B at h2 ⊢
  pointwise
  have eg : ∀ j : Fin 2048, r0_1.idx (ix2 0 j) = (ix2 0 j : S1x2048.Idx) := fun j => funext fun a => Fin.ext <| by
    match a with
    | ⟨0, _⟩ => rfl
    | ⟨1, _⟩ => show 0 + 1 * j.val = j.val; omega
  have em : ∀ (q : Fin 256) (j : Fin 2048), r0_2.idx (ix3 0 q j) = (ix3 0 q j : S1x256x2048.Idx) := fun q j => funext fun a => Fin.ext <| by
    match a with
    | ⟨0, _⟩ => rfl
    | ⟨1, _⟩ => show 0 + 1 * q.val = q.val; omega
    | ⟨2, _⟩ => show 0 + 1 * j.val = j.val; omega
  unfold hrow
  by_cases h : r.val < 256
  · rw [dif_pos h, h1]
    have eq : (⟨r.val % 256, by omega⟩ : Fin 256) = ⟨r.val, h⟩ := Fin.ext (Nat.mod_eq_of_lt h)
    rw [eq]
    refine congrFun (congr (congr (congr (congrArg normed ?_) ?_) ?_) ?_) k
    · exact funext fun j => congrArg x (funext fun a => Fin.ext <| by
        match a with
        | ⟨0, _⟩ => show 0 + 1 * r.val = r.val; omega
        | ⟨1, _⟩ => show 0 + 1 * j.val = j.val; omega)
    · exact funext fun j => congrArg g (eg j)
    · exact funext fun j => congrArg sh (em _ j)
    · exact funext fun j => congrArg sc (em _ j)
  · rw [dif_neg h, h2]
    have eq : (⟨r.val % 256, by omega⟩ : Fin 256) = ⟨r.val - 256, by omega⟩ := Fin.ext (by show r.val % 256 = r.val - 256; omega)
    rw [eq]
    refine congrFun (congr (congr (congr (congrArg normed ?_) ?_) ?_) ?_) k
    · exact funext fun j => congrArg x (funext fun a => Fin.ext <| by
        match a with
        | ⟨0, _⟩ => show 256 + 1 * (r.val - 256) = r.val; omega
        | ⟨1, _⟩ => show 0 + 1 * j.val = j.val; omega)
    · exact funext fun j => congrArg g (eg j)
    · exact funext fun j => congrArg sh (em _ j)
    · exact funext fun j => congrArg sc (em _ j)

/-- Column `f` of a block's projected row. -/
def zrow (r : Fin 512) (f : Fin 4096) : EReal := ∑ k : Fin 2048, hrow x g sh sc r k * w (ix2 k f)

/-- A chunk's product is the projected row at the chunk's column. -/
theorem chunk_sum (o : ℕ) (ho : o + 512 ≤ 4096) (inb) (r f : Fin 512) :
    (∑ k : Fin 2048, (k0_pay26 (F := Ideal) x g sh sc w : S512x2048.Idx → EReal) (ix2 r k)
      * (View.ld (Val := Elt Ideal) (e' := .bf16) w (Rect.unit (s := S2048x4096) ![0, o] S2048x512.size inb) : S2048x512.Idx → EReal) (ix2 k f)) = zrow x g sh sc w r ⟨o + f.val, by omega⟩ := by
  unfold zrow
  refine Finset.sum_congr rfl fun k _ => congrArg₂ (· * ·) (rows_at x g sh sc w r k) ?_
  refine congrArg w (funext fun a => Fin.ext ?_)
  match a with
  | ⟨0, _⟩ => show 0 + 1 * k.val = k.val; omega
  | ⟨1, _⟩ => show o + 1 * f.val = o + f.val; omega

/-- The gate block at an index. -/
def gateVal (i : S512x2048.Idx) : EReal := gelu (zrow x g sh sc w (i 0) ⟨(i 1).val, by have : (i 1).val < 2048 := (i 1).isLt; omega⟩)
/-- The recurrent branch's block at an index. -/
def recVal (i : S512x2048.Idx) : EReal := zrow x g sh sc w (i 0) ⟨2048 + (i 1).val, by have : (i 1).val < 2048 := (i 1).isLt; omega⟩

/-- A stored chunk of the gate holds the gate's values. -/
theorem gate_chunk (o : ℕ) (ho : o + 512 ≤ 2048) (inb inb') (y : S512x512.Idx) :
    (k0_pay17 (F := Ideal) (k0_pay26 (F := Ideal) x g sh sc w) (View.ld (Val := Elt Ideal) (e' := .bf16) w (Rect.unit (s := S2048x4096) ![0, o] S2048x512.size inb)) : S512x512.Idx → EReal) y
      = gateVal x g sh sc w ((Rect.unit (s := S512x2048) ![0, o] S512x512.size inb').emb y) := by
  obtain ⟨r, f, rfl⟩ : ∃ (r f : Fin 512), y = ix2 r f := ⟨y 0, y 1, eq_ix2 y⟩
  refine (gate_at _ _ r f).trans ?_
  rw [chunk_sum x g sh sc w o (by omega)]
  unfold gateVal
  refine congrArg gelu (congrArg₂ (zrow x g sh sc w) (Fin.ext ?_) (Fin.ext ?_))
  · show r.val = 0 + 1 * r.val; omega
  · show o + f.val = o + 1 * f.val; omega

/-- A stored chunk of the recurrent branch holds the branch's values. -/
theorem rec_chunk (o o' : ℕ) (ho : o + 512 ≤ 2048) (he : o' = 2048 + o) (inb inb') (y : S512x512.Idx) :
    (k0_pay2 (F := Ideal) (k0_pay26 (F := Ideal) x g sh sc w) (View.ld (Val := Elt Ideal) (e' := .bf16) w (Rect.unit (s := S2048x4096) ![0, o'] S2048x512.size inb)) : S512x512.Idx → EReal) y
      = recVal x g sh sc w ((Rect.unit (s := S512x2048) ![0, o] S512x512.size inb').emb y) := by
  obtain ⟨r, f, rfl⟩ : ∃ (r f : Fin 512), y = ix2 r f := ⟨y 0, y 1, eq_ix2 y⟩
  refine (rec_at _ _ r f).trans ?_
  rw [chunk_sum x g sh sc w o' (by omega)]
  unfold recVal
  refine congrArg₂ (zrow x g sh sc w) (Fin.ext ?_) (Fin.ext ?_)
  · show r.val = 0 + 1 * r.val; omega
  · show o' + f.val = 2048 + (o + 1 * f.val); omega

/-- The four stores make the gate block. -/
theorem gate_eq : out0_5 (F := Ideal) x g sh sc w = gateVal x g sh sc w := by
  funext i
  unfold out0_5
  refine View.canon_apply_of_pieces (Val := Elt Ideal) (e := .bf16) (gateVal x g sh sc w) _ ?_ i (cover0_5 (F := Ideal) _ _ _ _ i)
  intro p hp y
  simp only [List.mem_cons, List.not_mem_nil, or_false] at hp
  rcases hp with e | e | e | e <;> subst e
  · exact gate_chunk x g sh sc w 1536 (by omega) _ inb_S512x2048_S512x512_0_1536 y
  · exact gate_chunk x g sh sc w 1024 (by omega) _ inb_S512x2048_S512x512_0_1024 y
  · exact gate_chunk x g sh sc w 512 (by omega) _ inb_S512x2048_S512x512_0_512 y
  · exact gate_chunk x g sh sc w 0 (by omega) _ inb_S512x2048_S512x512_0_0 y

/-- The four stores make the recurrent branch's block. -/
theorem rec_eq : out0_6 (F := Ideal) x g sh sc w = recVal x g sh sc w := by
  funext i
  unfold out0_6
  refine View.canon_apply_of_pieces (Val := Elt Ideal) (e := .bf16) (recVal x g sh sc w) _ ?_ i (cover0_6 (F := Ideal) _ _ _ _ i)
  intro p hp y
  simp only [List.mem_cons, List.not_mem_nil, or_false] at hp
  rcases hp with e | e | e | e <;> subst e
  · exact rec_chunk x g sh sc w 1536 3584 (by omega) rfl _ inb_S512x2048_S512x512_0_1536 y
  · exact rec_chunk x g sh sc w 1024 3072 (by omega) rfl _ inb_S512x2048_S512x512_0_1024 y
  · exact rec_chunk x g sh sc w 512 2560 (by omega) rfl _ inb_S512x2048_S512x512_0_512 y
  · exact rec_chunk x g sh sc w 0 2048 (by omega) rfl _ inb_S512x2048_S512x512_0_0 y
end
end Cert.Proof.In
end
-- ==== Proof.InKernel.lean ====
/-
  The arrays the input projection's region finds, the blocks every grid point reads of them, and the two result arrays.
-/
module

public import proofs.«01_k».proof.Proof.InTile

@[expose] public section

set_option maxRecDepth 16384
noncomputable section
namespace Cert.Proof.In
open Cert.Kernel3Ideal Cert.Kernel3Ideal.Gen Idealize.ShloMosaic Idealize.ShloMosaic.TcCoe Idealize.SL.Sem
open Cert.Proof.InMath

variable (m : (ℓ : Loc nD τ sig) → Buf (Elt Ideal) ℓ) (c : Dev nD)

/-- The context stream. -/
def ka0 : Fin 16 → Fin 256 → Fin 2048 → EReal := fun b p k => m ((c : Thread nD τ).loc main_arg0) (ix3 b p k)
/-- The latent stream. -/
def ka1 : Fin 16 → Fin 2048 → Fin 2048 → EReal := fun b p k => m ((c : Thread nD τ).loc main_arg1) (ix3 b p k)
/-- The gain. -/
def kg : Fin 2048 → EReal := fun k => m ((c : Thread nD τ).loc main_arg2) (ix1 k)
/-- The context's row of modulations. -/
def kmc : Fin 12288 → EReal := fun k => m ((c : Thread nD τ).loc main_arg3) (ix2 0 k)
/-- The latents' rows of modulations. -/
def kml : Fin 16 → Fin 12288 → EReal := fun b k => m ((c : Thread nD τ).loc main_arg4) (ix2 b k)
/-- The weights. -/
def kw : Fin 2048 → Fin 4096 → EReal := fun k f => m ((c : Thread nD τ).loc main_arg5) (ix2 k f)

/-- The projection over what the launch finds. -/
def kz : ℕ → Fin 16 → Fin 4096 → EReal := zAt (ka0 m c) (ka1 m c) (kg m c) (kmc m c) (kml m c) (kw m c)

/-- The context stream in row order, as the launch finds it. -/
theorem V_ctx : V m c main_v1 = shapeCast S4096x2048 (transpose S256x16x2048 [1, 0, 2] (m ((c : Thread nD τ).loc main_arg0)) transposes_S16x256x2048_S256x16x2048_1_0_2) shapeCasts_S256x16x2048_S4096x2048 := by
  entry_read; rfl
/-- The latent stream in row order, as the launch finds it. -/
theorem V_lat : V m c main_v3 = shapeCast S32768x2048 (transpose S2048x16x2048 [1, 0, 2] (m ((c : Thread nD τ).loc main_arg1)) transposes_S16x2048x2048_S2048x16x2048_1_0_2) shapeCasts_S2048x16x2048_S32768x2048 := by
  entry_read; rfl
/-- The call's rows are the context's, then the latents'. -/
theorem V_v4_eq : (V m c main_v4 : Vec Ideal S36864x2048 .f32) = concatenate S36864x2048 0 [⟨S4096x2048, V m c main_v1⟩, ⟨S32768x2048, V m c main_v3⟩] concatenates_S4096x2048_S32768x2048_S36864x2048_d0 := by
  entry_read; rfl
/-- A context row read at an index. -/
theorem V_ctx_apply (r : Fin 4096) (w : Fin 2048) : (V m c main_v1 : Vec Ideal S4096x2048 .f32) (ix2 r w) = ka0 m c ⟨r.val % 16, by omega⟩ ⟨r.val / 16, by omega⟩ w := by
  unfold ka0
  rw [V_ctx]
  pointwise
/-- A latent row read at an index. -/
theorem V_lat_apply (r : Fin 32768) (w : Fin 2048) : (V m c main_v3 : Vec Ideal S32768x2048 .f32) (ix2 r w) = ka1 m c ⟨r.val % 16, by omega⟩ ⟨r.val / 16, by omega⟩ w := by
  unfold ka1
  rw [V_lat]
  pointwise
/-- A row of the call's activations. -/
theorem V_v4 (r : Fin 36864) (w : Fin 2048) : (V m c main_v4 : Vec Ideal S36864x2048 .f32) (ix2 r w)
    = if h : r.val / 16 < 256 then ka0 m c ⟨r.val % 16, by omega⟩ ⟨r.val / 16, h⟩ w else ka1 m c ⟨r.val % 16, by omega⟩ ⟨r.val / 16 - 256, by omega⟩ w := by
  rw [V_v4_eq]
  have h1 := V_ctx_apply m c
  have h2 := V_lat_apply m c
  generalize V m c main_v1 = A at h1 ⊢
  generalize V m c main_v3 = B at h2 ⊢
  pointwise
  by_cases h : r.val < 4096
  · rw [dif_pos h, h1, dif_pos (by omega)]
  · rw [dif_neg h, h2, dif_neg (by omega)]
    refine congrArg₂ (fun p q => ka1 m c p q w) (Fin.ext ?_) (Fin.ext ?_)
    · show (r.val - 4096) % 16 = r.val % 16; omega
    · show (r.val - 4096) / 16 = r.val / 16 - 256; omega

/-- The context's modulations, repeated down a tile. -/
theorem V_mc : (V m c main_v12 : Vec Ideal S1x256x12288 .f32) = broadcastInDim S1x256x12288 ![1, 2] bcast_S256x12288_S1x256x12288_1_2 (broadcastInDim S256x12288 ![0, 1] bcast_S1x12288_S256x12288_0_1
    (extractStridedSlice S1x12288 ![0, 0] (concatenate S17x12288 0 [⟨S1x12288, (m ((c : Thread nD τ).loc main_arg3) : Vec Ideal S1x12288 .f32)⟩, ⟨S16x12288, (m ((c : Thread nD τ).loc main_arg4) : Vec Ideal S16x12288 .f32)⟩] concatenates_S1x12288_S16x12288_S17x12288_d0) slices_S17x12288_S1x12288_0_0)) := by
  entry_read; rfl
/-- The latents' modulations, batch row by batch row, repeated down a tile. -/
theorem V_ml : (V m c main_v13 : Vec Ideal S1x256x12288 .f32) = broadcastInDim S1x256x12288 ![1, 2] bcast_S256x12288_S1x256x12288_1_2 (shapeCast S256x12288 (broadcastInDim S16x16x1x12288 ![0, 1, 2, 3] bcast_S1x16x1x12288_S16x16x1x12288_0_1_2_3
    (shapeCast S1x16x1x12288 (extractStridedSlice S16x12288 ![1, 0] (concatenate S17x12288 0 [⟨S1x12288, (m ((c : Thread nD τ).loc main_arg3) : Vec Ideal S1x12288 .f32)⟩, ⟨S16x12288, (m ((c : Thread nD τ).loc main_arg4) : Vec Ideal S16x12288 .f32)⟩] concatenates_S1x12288_S16x12288_S17x12288_d0) slices_S17x12288_S16x12288_1_0)
      shapeCasts_S16x12288_S1x16x1x12288)) shapeCasts_S16x16x1x12288_S256x12288) := by
  entry_read; rfl
/-- The table of modulations: the context's tile, then the latents'. -/
theorem V_v14_eq : (V m c main_v14 : Vec Ideal S2x256x12288 .f32) = concatenate S2x256x12288 0 [⟨S1x256x12288, V m c main_v12⟩, ⟨S1x256x12288, V m c main_v13⟩] concatenates_S1x256x12288_S1x256x12288_S2x256x12288_d0 := by
  entry_read; rfl
/-- A context modulation at an index. -/
theorem V_mc_apply (r : Fin 256) (k : Fin 12288) : (V m c main_v12 : Vec Ideal S1x256x12288 .f32) (ix3 0 r k) = kmc m c k := by
  unfold kmc
  rw [V_mc]
  pointwise
/-- A latent modulation at an index. -/
theorem V_ml_apply (r : Fin 256) (k : Fin 12288) : (V m c main_v13 : Vec Ideal S1x256x12288 .f32) (ix3 0 r k) = kml m c ⟨r.val % 16, by omega⟩ k := by
  unfold kml
  rw [V_ml]
  pointwise
/-- The table of modulations at an index. -/
theorem V_v14 (s : Fin 2) (r : Fin 256) (k : Fin 12288) : (V m c main_v14 : Vec Ideal S2x256x12288 .f32) (ix3 s r k) = if s.val = 0 then kmc m c k else kml m c ⟨r.val % 16, by omega⟩ k := by
  rw [V_v14_eq]
  have h1 := V_mc_apply m c
  have h2 := V_ml_apply m c
  generalize V m c main_v12 = A at h1 ⊢
  generalize V m c main_v13 = B at h2 ⊢
  pointwise
  by_cases h : s.val < 1
  · rw [dif_pos h, if_pos (by omega)]
    exact (congrArg (fun q => A (ix3 q r k)) (Subsingleton.elim _ _)).trans (h1 r k)
  · have hs : ¬ s.val = 0 := by omega
    rw [dif_neg h]
    exact ((congrArg (fun q => B (ix3 q r k)) (Subsingleton.elim _ _)).trans (h2 r k)).trans (if_neg hs).symm

/-- The gain as a row. -/
theorem V_v15 : V m c main_v15 = broadcastInDim S1x2048 ![1] bcast_S2048_S1x2048_1 (m ((c : Thread nD τ).loc main_arg2)) := by entry_read; rfl
/-- The weights. -/
theorem V_v16 : (V m c main_v16 : Vec Ideal S2048x4096 .bf16) = m ((c : Thread nD τ).loc main_arg5) := by entry_read; rfl

/-- The blocks that the windows name at each point. -/
theorem idx_in : ∀ t : Fin cfg0.N, win0_0.index t = ![t.val, 0] ∧ win0_1.index t = ![0, 0] ∧ win0_2.index t = ![if t.val < 8 then 0 else 1, 0, 0]
    ∧ win0_3.index t = ![if t.val < 8 then 0 else 1, 0, 1] ∧ win0_4.index t = ![0, 0] ∧ win0_5.index t = ![t.val, 0] ∧ win0_6.index t = ![t.val, 0] := by decide +kernel

/-- The point's own 512 rows. -/
theorem iblk0 (t : Fin cfg0.N) (r : Fin 512) (w : Fin 2048) (hr : 512 * t.val + r.val < 36864) :
    (iblk m c 0 t : Vec Ideal S512x2048 .f32) (ix2 r w) = (V m c main_v4 : Vec Ideal S36864x2048 .f32) (ix2 ⟨512 * t.val + r.val, hr⟩ w) := by
  blk_ext [iblk, V, idx_in t]
/-- The gain at every point. -/
theorem iblk1 (t : Fin cfg0.N) (w : Fin 2048) : (iblk m c 1 t : Vec Ideal S1x2048 .f32) (ix2 0 w) = kg m c w := by
  have e : (iblk m c 1 t : Vec Ideal S1x2048 .f32) (ix2 (0 : Fin 1) w) = (V m c main_v15 : Vec Ideal S1x2048 .f32) (ix2 (0 : Fin 1) w) := by blk_ext [iblk, V, idx_in t]
  rw [e, V_v15]; unfold kg; pointwise
/-- The table's tile of the point's stream. -/
def strm (t : Fin cfg0.N) : Fin 2 := ⟨if t.val < 8 then 0 else 1, by split <;> decide⟩
/-- The shifts at every point. -/
theorem iblk2 (t : Fin cfg0.N) (r : Fin 256) (w : Fin 2048) : (iblk m c 2 t : Vec Ideal S1x256x2048 .f32) (ix3 0 r w)
    = (V m c main_v14 : Vec Ideal S2x256x12288 .f32) (ix3 (strm t) r ⟨w.val, by omega⟩) := by
  unfold strm
  blk_ext [iblk, V, idx_in t]
/-- The scales at every point. -/
theorem iblk3 (t : Fin cfg0.N) (r : Fin 256) (w : Fin 2048) : (iblk m c 3 t : Vec Ideal S1x256x2048 .f32) (ix3 0 r w)
    = (V m c main_v14 : Vec Ideal S2x256x12288 .f32) (ix3 (strm t) r ⟨2048 + w.val, by omega⟩) := by
  unfold strm
  blk_ext [iblk, V, idx_in t]
/-- The weights at every point. -/
theorem iblk4 (t : Fin cfg0.N) (k : Fin 2048) (f : Fin 4096) : (iblk m c 4 t : Vec Ideal S2048x4096 .bf16) (ix2 k f) = kw m c k f := by
  have e : (iblk m c 4 t : Vec Ideal S2048x4096 .bf16) (ix2 k f) = (V m c main_v16 : Vec Ideal S2048x4096 .bf16) (ix2 k f) := by blk_ext [iblk, V, idx_in t]
  rw [e, V_v16]; rfl

/-- A projected row of the point's block is the projection of the row's position. -/
theorem zrow_at (t : Fin cfg0.N) (r : Fin 512) (f : Fin 4096) :
    zrow (iblk m c 0 t) (iblk m c 1 t) (iblk m c 2 t) (iblk m c 3 t) (iblk m c 4 t) r f
      = kz m c ((512 * t.val + r.val) / 16) ⟨(512 * t.val + r.val) % 16, Nat.mod_lt _ (by decide)⟩ f := by
  have ht : t.val < 72 := t.isLt
  have hr : 512 * t.val + r.val < 36864 := by omega
  have hb : (⟨r.val % 256 % 16, by omega⟩ : Fin 16) = ⟨(512 * t.val + r.val) % 16, Nat.mod_lt _ (by decide)⟩ := Fin.ext (by show r.val % 256 % 16 = (512 * t.val + r.val) % 16; omega)
  have h2 : ∀ j : Fin 2048, (iblk m c 2 t : Vec Ideal S1x256x2048 .f32) (ix3 0 (⟨r.val % 256, by omega⟩ : Fin 256) j)
      = if t.val < 8 then shiftOf (kmc m c) j else shiftOf (kml m c ⟨(512 * t.val + r.val) % 16, Nat.mod_lt _ (by decide)⟩) j := fun j => by
    rw [iblk2, V_v14, ← hb]
    unfold strm shiftOf
    by_cases h : t.val < 8 <;> simp [h]
  have h3 : ∀ j : Fin 2048, (iblk m c 3 t : Vec Ideal S1x256x2048 .f32) (ix3 0 (⟨r.val % 256, by omega⟩ : Fin 256) j)
      = if t.val < 8 then scaleOf (kmc m c) j else scaleOf (kml m c ⟨(512 * t.val + r.val) % 16, Nat.mod_lt _ (by decide)⟩) j := fun j => by
    rw [iblk3, V_v14, ← hb]
    unfold strm scaleOf
    by_cases h : t.val < 8 <;> simp [h]
  have h0 : ∀ j : Fin 2048, (iblk m c 0 t : Vec Ideal S512x2048 .f32) (ix2 r j)
      = if h : (512 * t.val + r.val) / 16 < 256 then ka0 m c ⟨(512 * t.val + r.val) % 16, Nat.mod_lt _ (by decide)⟩ ⟨(512 * t.val + r.val) / 16, h⟩ j
        else ka1 m c ⟨(512 * t.val + r.val) % 16, Nat.mod_lt _ (by decide)⟩ ⟨(512 * t.val + r.val) / 16 - 256, by omega⟩ j := fun j =>
    (iblk0 m c t r j hr).trans (V_v4 m c ⟨_, hr⟩ j)
  unfold zrow hrow
  simp only [iblk1, iblk4, h0, h2, h3]
  unfold kz zAt proj
  by_cases h : t.val < 8
  · rw [dif_pos (by omega)]
    refine Finset.sum_congr rfl fun k _ => ?_
    simp only [if_pos h, dif_pos (show (512 * t.val + r.val) / 16 < 256 by omega)]
  · rw [dif_neg (by omega), dif_pos (by omega)]
    refine Finset.sum_congr rfl fun k _ => ?_
    simp only [if_neg h, dif_neg (show ¬ (512 * t.val + r.val) / 16 < 256 by omega)]

/-- The gate's array: GELU of the first half of the projection's columns. -/
def kGate : Vec Ideal S36864x2048 .bf16 := fun i => gelu (kz m c ((i 0).val / 16) ⟨(i 0).val % 16, Nat.mod_lt _ (by decide)⟩ ⟨(i 1).val, by have : (i 1).val < 2048 := (i 1).isLt; omega⟩)
/-- The recurrent branch's array: the second half of the columns. -/
def kRec : Vec Ideal S36864x2048 .bf16 := fun i => kz m c ((i 0).val / 16) ⟨(i 0).val % 16, Nat.mod_lt _ (by decide)⟩ ⟨2048 + (i 1).val, by have : (i 1).val < 2048 := (i 1).isLt; omega⟩

/-- After the launch the first result array holds the gate. -/
theorem final5 : (dats m 0 c).arrAt 5 (cfgs 0).N = kGate m c := by
  refine (dats m 0 c).arrAt_eq_of_covers 5 _ (by decide +kernel) fun t hf y => ?_
  blk_simp
  rw [after0_5]
  obtain ⟨r, w, rfl⟩ : ∃ (r : Fin 512) (w : Fin 2048), y = ix2 r w := ⟨y 0, y 1, eq_ix2 y⟩
  have ht : t.val < 72 := t.isLt
  have e : (win0_5.blk t).view.emb (ix2 r w) = (ix2 (⟨512 * t.val + r.val, by omega⟩ : Fin 36864) w : S36864x2048.Idx) := by
    blk_ext [idx_in t]
  rw [e, gate_eq]
  exact congrArg gelu (zrow_at m c t r _)

/-- After the launch the second result array holds the recurrent branch. -/
theorem final6 : (dats m 0 c).arrAt 6 (cfgs 0).N = kRec m c := by
  refine (dats m 0 c).arrAt_eq_of_covers 6 _ (by decide +kernel) fun t hf y => ?_
  blk_simp
  rw [after0_6]
  obtain ⟨r, w, rfl⟩ : ∃ (r : Fin 512) (w : Fin 2048), y = ix2 r w := ⟨y 0, y 1, eq_ix2 y⟩
  have ht : t.val < 72 := t.isLt
  have e : (win0_6.blk t).view.emb (ix2 r w) = (ix2 (⟨512 * t.val + r.val, by omega⟩ : Fin 36864) w : S36864x2048.Idx) := by
    blk_ext [idx_in t]
  rw [e, rec_eq]
  exact zrow_at m c t r _
end Cert.Proof.In
end
-- ==== Proof.InRef.lean ====
/- The reference's two arrays read at an index. -/
module

public import proofs.«01_k».proof.Proof.Gen.Reference3Ideal.Run
public import proofs.«01_k».proof.Proof.InMath
public import Idealize.ShloMosaic.Lib.StableHlo.ReadAt
public import Idealize.ShloMosaic.Lib.Pipeline.ValueKit

@[expose] public section

set_option maxRecDepth 16384
noncomputable section
namespace Cert.Proof.InRef
open Cert.Reference3Ideal Cert.Reference3Ideal.Gen Cert.Reference3Ideal.Value Idealize.ShloMosaic Idealize.ShloMosaic.TcCoe Idealize.SL.Sem Idealize.ShloMosaic.StableHlo
open Cert.Proof.InMath

/-- The context rows, normed and modulated. -/
def hC (x : FVec Ideal S16x256x2048 .f32) (g : FVec Ideal S2048 .f32) (t : FVec Ideal S1x12288 .f32) : FVec Ideal S16x256x2048 .f32 :=
  addf (mulf (mulf (mulf x (broadcastInDim S16x256x2048 ![0, 1, 2] bcast_S16x256x1_S16x256x2048_0_1_2 (Host.rsqrt (addf (Host.divf (broadcastInDim S16x256x1 ![0, 1] bcast_S16x256_S16x256x1_0_1
      (Host.reduceAdd (mulf x x) (constant S_ .f32 0x00000000#32) reducesTo_S16x256x2048_S16x256_d2 h_S_)) (broadcastInDim S16x256x1 ![] bcast_S_S16x256x1 (constant S_ .f32 0x45000000#32)))
      (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 g)))
    (broadcastInDim S16x256x2048 ![0, 1, 2] bcast_S1x1x2048_S16x256x2048_0_1_2 (addf (broadcastInDim S1x1x2048 ![] bcast_S_S1x1x2048 (constant S_ .f32 0x3F800000#32))
      (broadcastInDim S1x1x2048 ![0, 2] bcast_S1x2048_S1x1x2048_0_2 (extractStridedSlice S1x2048 ![0, 2048] t slices_S1x12288_S1x2048_0_2048)))))
    (broadcastInDim S16x256x2048 ![0, 1, 2] bcast_S1x1x2048_S16x256x2048_0_1_2 (broadcastInDim S1x1x2048 ![0, 2] bcast_S1x2048_S1x1x2048_0_2 (extractStridedSlice S1x2048 ![0, 0] t slices_S1x12288_S1x2048_0_0)))

/-- Their projection. -/
def zC (h : FVec Ideal S16x256x2048 .f32) (w : FVec Ideal S2048x4096 .f32) : FVec Ideal S16x256x4096 .f32 :=
  Host.dotGeneral dot_S16x256x2048_S2048x4096_S16x256x4096_2_0_01_1_n_n none h w

/-- The gate's GELU over the context rows. -/
def geluC (z : FVec Ideal S16x256x2048 .f32) : FVec Ideal S16x256x2048 .f32 :=
  mulf z (mulf (broadcastInDim S16x256x2048 ![] bcast_S_S16x256x2048 (constant S_ .f32 0x3F000000#32)) (addf (broadcastInDim S16x256x2048 ![] bcast_S_S16x256x2048 (constant S_ .f32 0x3F800000#32))
    (Host.tanh (mulf (broadcastInDim S16x256x2048 ![] bcast_S_S16x256x2048 (constant S_ .f32 0x3F4C422A#32)) (addf z (mulf (broadcastInDim S16x256x2048 ![] bcast_S_S16x256x2048 (constant S_ .f32 0x3D372713#32)) (mulf (mulf z z) z)))))))

/-- A normed context row at an index. -/
theorem hC_at (x : FVec Ideal S16x256x2048 .f32) (g : FVec Ideal S2048 .f32) (t : FVec Ideal S1x12288 .f32) (b : Fin 16) (p : Fin 256) (k : Fin 2048) :
    hC x g t (ix3 b p k) = normed (fun j => x (ix3 b p j)) (fun j => g (ix1 j)) (shiftOf fun j => t (ix2 0 j)) (scaleOf fun j => t (ix2 0 j)) k := by
  unfold hC normed shiftOf scaleOf
  pointwise

/-- A projected context row at an index. -/
theorem zC_at (x : FVec Ideal S16x256x2048 .f32) (g : FVec Ideal S2048 .f32) (t : FVec Ideal S1x12288 .f32) (w : FVec Ideal S2048x4096 .f32) (b : Fin 16) (p : Fin 256) (f : Fin 4096) :
    zC (hC x g t) w (ix3 b p f) = proj (fun j => x (ix3 b p j)) (fun j => g (ix1 j)) (shiftOf fun j => t (ix2 0 j)) (scaleOf fun j => t (ix2 0 j)) (fun k f => w (ix2 k f)) f := by
  unfold proj
  simp only [← hC_at]
  generalize hC x g t = h
  unfold zC
  pointwise

/-- GELU at an index. -/
theorem geluC_at (z : FVec Ideal S16x256x2048 .f32) (i : S16x256x2048.Idx) : geluC z i = gelu (z i) := by
  rw [← gelu_comm]
  unfold geluC
  pointwise

/-- The latent rows, normed and modulated. -/
def hL (x : FVec Ideal S16x2048x2048 .f32) (g : FVec Ideal S2048 .f32) (t : FVec Ideal S16x12288 .f32) : FVec Ideal S16x2048x2048 .f32 :=
  addf (mulf (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1
      (Host.reduceAdd (mulf x x) (constant S_ .f32 0x00000000#32) reducesTo_S16x2048x2048_S16x2048_d2 h_S_)) (broadcastInDim S16x2048x1 ![] bcast_S_S16x2048x1 (constant S_ .f32 0x45000000#32)))
      (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g)))
    (broadcastInDim S16x2048x2048 ![0, 1, 2] bcast_S16x1x2048_S16x2048x2048_0_1_2 (addf (broadcastInDim S16x1x2048 ![] bcast_S_S16x1x2048 (constant S_ .f32 0x3F800000#32))
      (broadcastInDim S16x1x2048 ![0, 2] bcast_S16x2048_S16x1x2048_0_2 (extractStridedSlice S16x2048 ![0, 2048] t slices_S16x12288_S16x2048_0_2048)))))
    (broadcastInDim S16x2048x2048 ![0, 1, 2] bcast_S16x1x2048_S16x2048x2048_0_1_2 (broadcastInDim S16x1x2048 ![0, 2] bcast_S16x2048_S16x1x2048_0_2 (extractStridedSlice S16x2048 ![0, 0] t slices_S16x12288_S16x2048_0_0)))

/-- Their projection. -/
def zL (h : FVec Ideal S16x2048x2048 .f32) (w : FVec Ideal S2048x4096 .f32) : FVec Ideal S16x2048x4096 .f32 :=
  Host.dotGeneral dot_S16x2048x2048_S2048x4096_S16x2048x4096_2_0_01_1_n_n none h w

/-- The gate's GELU over the latent rows. -/
def geluL (z : FVec Ideal S16x2048x2048 .f32) : FVec Ideal S16x2048x2048 .f32 :=
  mulf z (mulf (broadcastInDim S16x2048x2048 ![] bcast_S_S16x2048x2048 (constant S_ .f32 0x3F000000#32)) (addf (broadcastInDim S16x2048x2048 ![] bcast_S_S16x2048x2048 (constant S_ .f32 0x3F800000#32))
    (Host.tanh (mulf (broadcastInDim S16x2048x2048 ![] bcast_S_S16x2048x2048 (constant S_ .f32 0x3F4C422A#32)) (addf z (mulf (broadcastInDim S16x2048x2048 ![] bcast_S_S16x2048x2048 (constant S_ .f32 0x3D372713#32)) (mulf (mulf z z) z)))))))

/-- A normed latent row at an index. -/
theorem hL_at (x : FVec Ideal S16x2048x2048 .f32) (g : FVec Ideal S2048 .f32) (t : FVec Ideal S16x12288 .f32) (b : Fin 16) (p : Fin 2048) (k : Fin 2048) :
    hL x g t (ix3 b p k) = normed (fun j => x (ix3 b p j)) (fun j => g (ix1 j)) (shiftOf fun j => t (ix2 b j)) (scaleOf fun j => t (ix2 b j)) k := by
  unfold hL normed shiftOf scaleOf
  pointwise

/-- A projected latent row at an index. -/
theorem zL_at (x : FVec Ideal S16x2048x2048 .f32) (g : FVec Ideal S2048 .f32) (t : FVec Ideal S16x12288 .f32) (w : FVec Ideal S2048x4096 .f32) (b : Fin 16) (p : Fin 2048) (f : Fin 4096) :
    zL (hL x g t) w (ix3 b p f) = proj (fun j => x (ix3 b p j)) (fun j => g (ix1 j)) (shiftOf fun j => t (ix2 b j)) (scaleOf fun j => t (ix2 b j)) (fun k f => w (ix2 k f)) f := by
  unfold proj
  simp only [← hL_at]
  generalize hL x g t = h
  unfold zL
  pointwise

/-- GELU at an index. -/
theorem geluL_at (z : FVec Ideal S16x2048x2048 .f32) (i : S16x2048x2048.Idx) : geluL z i = gelu (z i) := by
  rw [← gelu_comm]
  unfold geluL
  pointwise

/-- The two streams' arrays end to end, position by position. -/
def rows (a : FVec Ideal S16x256x2048 .f32) (b : FVec Ideal S16x2048x2048 .f32) : FVec Ideal S36864x2048 .bf16 :=
  truncf .bf16 (shapeCast S36864x2048 (transpose S2304x16x2048 [1, 0, 2] (concatenate S16x2304x2048 1 [⟨S16x256x2048, a⟩, ⟨S16x2048x2048, b⟩]
    concatenates_S16x256x2048_S16x2048x2048_S16x2304x2048_d1) transposes_S16x2304x2048_S2304x16x2048_1_0_2) shapeCasts_S2304x16x2048_S36864x2048) bitsLt_bf16_f32

/-- Row `r` is position `r / 16` of batch row `r % 16`. -/
theorem rows_at (a : FVec Ideal S16x256x2048 .f32) (b : FVec Ideal S16x2048x2048 .f32) (r : Fin 36864) (w : Fin 2048) :
    rows a b (ix2 r w) = if h : r.val / 16 < 256 then a (ix3 (⟨r.val % 16, by omega⟩ : Fin 16) ⟨r.val / 16, h⟩ w)
      else b (ix3 (⟨r.val % 16, by omega⟩ : Fin 16) (⟨r.val / 16 - 256, by omega⟩ : Fin 2048) w) := by
  unfold rows
  pointwise

variable (m : (ℓ : Loc nD τ sig) → Buf (Elt Ideal) ℓ) (c : Dev nD)

/-- The projection over what the launch finds. -/
def rz : ℕ → Fin 16 → Fin 4096 → EReal :=
  zAt (fun b p k => m ((c : Thread nD τ).loc main_arg0) (ix3 b p k)) (fun b p k => m ((c : Thread nD τ).loc main_arg1) (ix3 b p k))
    (fun k => m ((c : Thread nD τ).loc main_arg2) (ix1 k)) (fun k => m ((c : Thread nD τ).loc main_arg3) (ix2 0 k))
    (fun b k => m ((c : Thread nD τ).loc main_arg4) (ix2 b k)) (fun k f => m ((c : Thread nD τ).loc main_arg5) (ix2 k f))

/-- The context's projected rows over what the launch finds. -/
def cz : FVec Ideal S16x256x4096 .f32 := zC (hC (m ((c : Thread nD τ).loc main_arg0)) (m ((c : Thread nD τ).loc main_arg2)) (m ((c : Thread nD τ).loc main_arg3))) (m ((c : Thread nD τ).loc main_arg5))
/-- The latents' projected rows. -/
def lz : FVec Ideal S16x2048x4096 .f32 := zL (hL (m ((c : Thread nD τ).loc main_arg1)) (m ((c : Thread nD τ).loc main_arg2)) (m ((c : Thread nD τ).loc main_arg4))) (m ((c : Thread nD τ).loc main_arg5))

/-- The gate's array as the reference builds it. -/
theorem gate_eq : res_main_v97 m c = rows (geluC (extractStridedSlice S16x256x2048 ![0, 0, 0] (cz m c) slices_S16x256x4096_S16x256x2048_0_0_0))
    (geluL (extractStridedSlice S16x2048x2048 ![0, 0, 0] (lz m c) slices_S16x2048x4096_S16x2048x2048_0_0_0)) := rfl

/-- The recurrent branch's array as the reference builds it. -/
def recT : FVec Ideal S36864x2048 .bf16 := rows (extractStridedSlice S16x256x2048 ![0, 0, 2048] (cz m c) slices_S16x256x4096_S16x256x2048_0_0_2048)
    (extractStridedSlice S16x2048x2048 ![0, 0, 2048] (lz m c) slices_S16x2048x4096_S16x2048x2048_0_0_2048)

/-- The projected rows are the projection, stream by stream. -/
theorem ctx_at (b : Fin 16) (P : ℕ) (h : P < 256) (f : Fin 4096) : cz m c (ix3 b ⟨P, h⟩ f) = rz m c P b f := by
  unfold cz rz zAt
  rw [dif_pos h]
  exact zC_at _ _ _ _ b ⟨P, h⟩ f
/-- The latents' too. -/
theorem lat_at (b : Fin 16) (P : ℕ) (h : ¬ P < 256) (h' : P - 256 < 2048) (f : Fin 4096) : lz m c (ix3 b ⟨P - 256, h'⟩ f) = rz m c P b f := by
  unfold lz rz zAt
  rw [dif_neg h, dif_pos h']
  exact zL_at _ _ _ _ b ⟨P - 256, h'⟩ f

/-- The gate's array: GELU of the first half of the projection's columns. -/
theorem gate_at (r : Fin 36864) (w : Fin 2048) : (res_main_v97 m c : S36864x2048.Idx → EReal) (ix2 r w)
    = gelu (rz m c (r.val / 16) ⟨r.val % 16, by omega⟩ ⟨w.val, by omega⟩) := by
  rw [gate_eq, rows_at]
  have hc := ctx_at m c
  have hl := lat_at m c
  generalize cz m c = u at hc ⊢
  generalize lz m c = v at hl ⊢
  by_cases h : r.val / 16 < 256
  · rw [dif_pos h, geluC_at, ← hc _ _ h]
    refine congrArg gelu ?_
    pointwise
  · rw [dif_neg h, geluL_at, ← hl _ _ h (by omega)]
    refine congrArg gelu ?_
    pointwise

/-- The recurrent branch's array: the second half of the columns. -/
theorem rec_at (r : Fin 36864) (w : Fin 2048) : (recT m c : S36864x2048.Idx → EReal) (ix2 r w)
    = rz m c (r.val / 16) ⟨r.val % 16, by omega⟩ ⟨2048 + w.val, by omega⟩ := by
  unfold recT
  rw [rows_at]
  have hc := ctx_at m c
  have hl := lat_at m c
  generalize cz m c = u at hc ⊢
  generalize lz m c = v at hl ⊢
  by_cases h : r.val / 16 < 256
  · rw [dif_pos h, ← hc _ _ h]
    pointwise
  · rw [dif_neg h, ← hl _ _ h (by omega)]
    pointwise
end Cert.Proof.InRef
end
-- ==== Proof.MoeWords.lean ====
/- The two tables' words as numbers: what the precondition says of them and the blocks they name. -/
module

public import proofs.«01_k».proof.Proof.Gen.Pre_experts_and_tiles
public import Idealize.ShloMosaic.Lib.WordCmp

@[expose] public section

noncomputable section

namespace Cert.Proof.MoeWords

open Cert.Pre_experts_and_tiles Idealize.ShloMosaic

/-- A word between 0 and 63 read as a signed number is below 64. -/
theorem small_of_signed (w : BitVec 32) (h0 : 0 ≤ w.toInt) (h1 : w.toInt < 64) : w.toNat < 64 := by
  have := BitVec.toInt_eq_toNat_of_lt (x := w) (by by_contra h; rw [BitVec.toInt_eq_toNat_cond, if_neg h] at h0; have := w.isLt; omega)
  omega

/-- A tile's number as a signed word is itself. -/
theorem num_toInt (t : ℕ) (ht : t < 352) : (BitVec.ofNat 32 t).toInt = t := WordCmp.toInt_ofNat_of_lt (by omega)

/-- The last used tile's number. -/
theorem last_toInt (w : BitVec 32) (hw : 1 ≤ w.toInt) : (Scalar.subi w 1#32).toInt = w.toInt - 1 := by
  show (w - 1#32).toInt = _
  rw [BitVec.toInt_sub, show (1#32 : BitVec 32).toInt = 1 from rfl]
  have := BitVec.toInt_lt (x := w)
  rw [Int.bmod_def]; split <;> omega

/-- The block of rows a tile reads: its own while it is used, else the last used tile's. -/
theorem rows_block (t : ℕ) (ht : t < 352) (w : BitVec 32) (hw : 1 ≤ w.toInt) :
    ((t : ℤ) < w.toInt → (Scalar.minsi (BitVec.ofNat 32 t) (Scalar.subi w 1#32)).toNat = t)
      ∧ (Scalar.minsi (BitVec.ofNat 32 t) (Scalar.subi w 1#32)).toNat < 352 := by
  have e : Scalar.minsi (BitVec.ofNat 32 t) (Scalar.subi w 1#32) = if (t : ℤ) < w.toInt - 1 then BitVec.ofNat 32 t else Scalar.subi w 1#32 := by
    show (if (BitVec.ofNat 32 t).slt (Scalar.subi w 1#32) then _ else _) = _
    rw [BitVec.slt, num_toInt t ht, last_toInt w hw]
    simp only [decide_eq_true_eq]
  have hn : (BitVec.ofNat 32 t).toNat = t := by rw [BitVec.toNat_ofNat]; omega
  rw [e]
  have hl := last_toInt w hw
  rw [BitVec.toInt_eq_toNat_cond] at hl
  have hb := (Scalar.subi w 1#32).isLt
  split
  · rw [hn]; exact ⟨fun _ => rfl, ht⟩
  · next h =>
    split at hl
    · refine ⟨fun h2 => by omega, by omega⟩
    · omega

section
variable {F : FTy → Type} [FloatOps F] (te : IVec S352 32) (nu : IVec S1 32) (x : FVec F S720896x1024 .bf16) (g u : FVec F S4x64x2048x256 .f32)
  (d : FVec F S4x64x256x2048 .f32)

/-- The precondition's first part: every tile's expert is one of the 64. -/
theorem experts (h : (fn (F := F) te nu x g u d).1 = fun _ => 1#1) (i : S352.Idx) : 0 ≤ (te i).toInt ∧ (te i).toInt < 64 := by
  have e : IntOp.andi (IntOp.cmpi .sge (te i) 0#32) (IntOp.cmpi .slt (te i) 64#32) = 1#1 := congrFun h i
  have key : ∀ a b : BitVec 1, IntOp.andi a b = 1#1 → a = 1#1 ∧ b = 1#1 := by decide
  obtain ⟨e0, e1⟩ := key _ _ e
  rw [WordCmp.cmpi_sge_eq, WordCmp.ofBool_decide_eq_one_iff] at e0
  rw [WordCmp.cmpi_slt_eq, WordCmp.ofBool_decide_eq_one_iff] at e1
  exact ⟨e0, e1⟩

/-- The precondition's second part: at least one tile is used. -/
theorem tiles (h : (fn (F := F) te nu x g u d).2 = fun _ => 1#1) (i : S1.Idx) : 1 ≤ (nu i).toInt := by
  have e : IntOp.cmpi .sge (nu i) 1#32 = 1#1 := congrFun h i
  rw [WordCmp.cmpi_sge_eq, WordCmp.ofBool_decide_eq_one_iff] at e
  exact e
end

end Cert.Proof.MoeWords

end
-- ==== Proof.MoeBitsOk.lean ====
/- The tables of the precondition name only blocks inside the arrays. -/
module

public import proofs.«01_k».proof.Proof.MoeWords
public import proofs.«01_k».proof.Proof.MoeBitsRun
public import proofs.«01_k».proof.Defs

@[expose] public section

set_option maxRecDepth 16384

noncomputable section

namespace Cert.Proof.MoeBits

open Cert.Kernel2 Cert.Kernel2.Gen
open Idealize.ShloMosaic Idealize.ShloMosaic.TcCoe

/-- Experts below 64 and a count of at least one make every block lie inside its array. -/
theorem ok_of {F : FTy → Type} [BitOps F] (m : (ℓ : Loc nD τ sig) → Buf (Elt F) ℓ)
    (hE : ∀ i : S352.Idx, 0 ≤ (tbl m 0 i : BitVec 32).toInt ∧ (tbl m 0 i : BitVec 32).toInt < 64) (hN : ∀ i : S1.Idx, 1 ≤ (tbl m 1 i : BitVec 32).toInt) : Ok m := by
  refine ⟨fun i => ⟨?_, .inr (Affine.block_words_dvd (of_decide_eq_true rfl) (by decide))⟩, fun i => ⟨?_, .inl rfl⟩, fun i => ⟨?_, .inl rfl⟩, fun i => ⟨?_, .inl rfl⟩⟩
  · intro a
    have hb := (MoeWords.rows_block (i 0).val (i 0).isLt _ (hN ((Rect.unit (s := S1) ![0] S1.size inb_S1_S1_0).emb (Shape.Idx.first (numel1_S1.symm ▸ Nat.one_pos))))).2
    match a with
    | ⟨0, _⟩ => exact (Nat.mul_le_mul_right 2048 hb : _ ≤ 352 * 2048)
    | ⟨1, _⟩ => exact Nat.le_refl _
  all_goals
    intro a
    have he := hE ((Rect.unit (s := S352) (k0_off1 i) S1.size (k0_off1_inb i)).emb (Shape.Idx.first (numel1_S1.symm ▸ Nat.one_pos)))
    have hb := MoeWords.small_of_signed _ he.1 he.2
    match a with
    | ⟨0, _⟩ => exact (by decide : (0 + 1) * 1 ≤ 4)
    | ⟨1, _⟩ => exact (Nat.mul_le_mul_right 1 hb : _ ≤ 64 * 1)
    | ⟨2, _⟩ => exact Nat.le_refl _
    | ⟨3, _⟩ => exact Nat.le_refl _

section
variable (m : (ℓ : Loc nD τ sig) → Buf (Elt Bits) ℓ) (h : Cert.Pre_Kernel2 (hPre_experts_and_tiles := Cert.Pre_experts_and_tiles.Gen.facts) m)

include h
/-- Under the precondition every tile's expert is one of the 64. -/
theorem pre_experts (i : S352.Idx) : 0 ≤ (tbl m 0 i : BitVec 32).toInt ∧ (tbl m 0 i : BitVec 32).toInt < 64 := MoeWords.experts _ _ _ _ _ _ (h 0).1 i
/-- Under the precondition at least one tile is used. -/
theorem pre_tiles (i : S1.Idx) : 1 ≤ (tbl m 1 i : BitVec 32).toInt := MoeWords.tiles _ _ _ _ _ _ (h 0).2 i
/-- Under the precondition every block lies inside its array. -/
theorem ok_of_pre : Ok m := ok_of m (pre_experts m h) (pre_tiles m h)
end

end Cert.Proof.MoeBits

end
-- ==== Proof.MoeSetup.lean ====
/- The expert call as a pipeline with two prefetched tables: the memory it starts from, the tables, the blocks of
   its windows and the names of its buffers. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call starts: as launched, since the program is the call alone. -/
abbrev V (c : Dev nD) (b : Ref sig .tc) : Buf (Elt F) ((c : Thread nD τ).loc b) := m ((c : Thread nD τ).loc b)

set_option maxHeartbeats 800000 in
/-- The program up to the call is the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' words: the tiles' experts and the count of used tiles. -/
def tbl : pre0.Contents (Elt F) := fun j => V m (0 : Dev nD) (pre0.ref j)

/-- Every core's tables hold these words (there is one core). -/
theorem V_pre (c : Dev nD) (j : Fin 2) : V m c (pre0.ref j) = tbl m j := by
  obtain rfl : c = 0 := Subsingleton.elim _ _; rfl

/-- The tables name only blocks that lie inside the arrays. -/
abbrev Ok : Prop := ok0 (F := F) (tbl m)
/-- The tables as contents the pipeline admits. -/
abbrev adm (hO : Ok m) : (pcfg0 (F := F)).Adm := ⟨tbl m, hO⟩
/-- The pipeline at these tables. -/
abbrev cfgM (hO : Ok m) : Pipeline.Cfg sig Λ₀ := cfg0 (adm m hO)

/-- The table of the tiles' experts as the body sees it. -/
abbrev tbE : Memref sig .tc .smem S352 .i32 := Memref.whole main_arg0
/-- The table of experts is a whole buffer. -/
abbrev htbE : tbE.IsWhole := Memref.isWhole_whole _
/-- The table holding the count of used tiles. -/
abbrev tbN : Memref sig .tc .smem S1 .i32 := Memref.whole main_arg1
/-- The count table is a whole buffer. -/
abbrev htbN : tbN.IsWhole := Memref.isWhole_whole _

/-- The contents of a memref's buffer on core `c`. -/
abbrev TbBuf (c : Dev nD) {S : Shape} {e : EltTy} (M : Memref sig .tc .smem S e) : Type := Buf (Elt F) (M.view.loc (c : Thread nD τ))
/-- A table's buffer held for reading, at contents `f`. -/
abbrev tbPt (c : Dev nD) {S : Shape} {e : EltTy} (M : Memref sig .tc .smem S e) (f : TbBuf (F := F) c M) : sProp 𝕄 :=
  M.view.loc (c : Thread nD τ) ↦{fullShare.right} f

/-- The share of the tables the body is handed, table by table. -/
theorem PhiT_eq (c : Dev nD) : (Pipeline.ΦT pre0 (tbl m) c : sProp 𝕄) = iprop(tbPt c tbE (tbl m 0) ∗ tbPt c tbN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The three scratch buffers, which hold the current expert's weights. -/
abbrev scG : Memref sig .tc .vmem S2048x256 .bf16 := Memref.whole cc0_scratch0
/-- The scratch buffer of the up weights. -/
abbrev scU : Memref sig .tc .vmem S2048x256 .bf16 := Memref.whole cc0_scratch1
/-- The scratch buffer of the down weights. -/
abbrev scD : Memref sig .tc .vmem S256x2048 .bf16 := Memref.whole cc0_scratch2

/-- What the launch hands the call besides its windows: the scratch buffers at some contents and the generator. -/
theorem PhiA_eq (c : Dev nD) :
    (Pipeline.ΦA spec0 c : sProp 𝕄)
      = iprop(iprop((∃ d, owns (c : Thread nD τ) scG fullShare d) ∗ (∃ d, owns (c : Thread nD τ) scU fullShare d) ∗ (∃ d, owns (c : Thread nD τ) scD fullShare d)) ∗ (∃ r, prngReg c r)) := by
  unfold Pipeline.ΦA; rw [scopedRest0_eq]; simp only [scG, scU, scD, owns_whole]; try rfl

/-- Window `w`'s block at point `t`, read off its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section before
variable (hO : Ok m) {c : Dev nD} (dat : Dat τ (Elt F) Unit ℕ (UR sig nD τ) ℕ (cfgM m hO) c)

/-- A staged input holds its block at every point, whether or not it was fetched there. -/
theorem before_0 (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The gate weights' buffer holds the point's block. -/
theorem before_1 (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The up weights' buffer holds the point's block. -/
theorem before_2 (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The down weights' buffer holds the point's block. -/
theorem before_3 (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
end before

/-- The frame claim's post from a frame run's: no argument array is changed. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r : PUnit × MemSt nD τ sig (Elt F))
    (h : Pipeline.FramePost (Pipeline.pin pcfgs fun _ => adm m hO) dats 0 (V m) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  fun c => ⟨(h c).2 main_arg0 (by decide : main_arg0 ∈ Pipeline.restRefs sig spec0),
      (h c).2 main_arg1 (by decide : main_arg1 ∈ Pipeline.restRefs sig spec0),
      ((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3))⟩

/-- Each window's current staging buffer at point `t`, and that it is a whole buffer. -/
abbrev ms0 (hO : Ok m) (t : Fin (cfgM m hO).N) : Memref sig .tc .vmem S2048x1024 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x2048x256 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x2048x256 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x256x2048 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S2048x1024 .bf16 := spec0_4.stage ((cfgM m hO).slots t 4)
abbrev hs4 (hO : Ok m) (t : Fin (cfgM m hO).N) : (ms4 m hO t).IsWhole := hstage0_4 (((cfgM m hO).slots t 4).cast nbuf0_4)

end Cert.Proof.Moe

end
-- ==== Proof.MoeBody.lean ====
/- One grid point of the expert call, run from its memory: the weights are taken into the scratch buffers when the
   tile's expert is a new one, and the tile is either computed or set to zero. -/
module

public import proofs.«01_k».proof.Proof.MoeSetup
public import Idealize.ShloMosaic.Lib.VecWindow
public import Idealize.ShloMosaic.Lib.Tactic.Stretches

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the count table, as the body reads it. -/
abbrev usedWord (c : Dev nD) (xt1 : TbBuf (F := F) c tbN) : BitVec 32 :=
  View.readAt (Elt F) tbN.view (Rect.unit (s := S1) ![0] S1.size inb_S1_S1_0).toLoadRect xt1 (Shape.Idx.first (numel1_S1.symm ▸ Nat.one_pos))
/-- The expert of the point's tile, and of the tile before it (of the first tile, at the first point). -/
abbrev expWord (c : Dev nD) (i : grid0.Coords) (xt0 : TbBuf (F := F) c tbE) : BitVec 32 :=
  View.readAt (Elt F) tbE.view (Rect.unit (s := S352) (k0_off1 i) S1.size (k0_off1_inb i)).toLoadRect xt0 (Shape.Idx.first (numel1_S1.symm ▸ Nat.one_pos))
/-- The expert of the tile before the point's tile. -/
abbrev prevWord (c : Dev nD) (i : grid0.Coords) (xt0 : TbBuf (F := F) c tbE) : BitVec 32 :=
  View.readAt (Elt F) tbE.view (Rect.unit (s := S352) (k0_off2 i) S1.size (k0_off2_inb i)).toLoadRect xt0 (Shape.Idx.first (numel1_S1.symm ▸ Nat.one_pos))

/-- The body takes the weights anew: at the first tile and where the expert changes. -/
def Load (c : Dev nD) (i : grid0.Coords) (xt0 : TbBuf (F := F) c tbE) : Prop :=
  Scalar.cmpi .ne (Scalar.extui (Scalar.ori (Scalar.cmpi .eq (BitVec.ofNat 32 (i 0).val) 0#32)
    (Scalar.cmpi .ne (expWord c i xt0) (prevWord c i xt0)))) 0#32 = 1#1

instance (c : Dev nD) (i : grid0.Coords) (xt0 : TbBuf (F := F) c tbE) : Decidable (Load c i xt0) :=
  inferInstanceAs (Decidable (_ = _))

/-- The first 1024 rows of a tile, from the tile's rows and the three weights held in scratch. -/
def halfTop (x0 : Vec F S2048x1024 .bf16) (w1 w2 : Vec F S2048x256 .bf16) (w3 : Vec F S256x2048 .bf16) : Vec F S1024x1024 .bf16 :=
  k0_pay6 (View.ld x0 (Rect.unit (s := S2048x1024) ![0, 0] S1024x1024.size inb_S2048x1024_S1024x1024_0_0))
    (View.ld w1 (Rect.unit (s := S2048x256) ![0, 0] S1024x256.size inb_S2048x256_S1024x256_0_0))
    (View.ld w1 (Rect.unit (s := S2048x256) ![1024, 0] S1024x256.size inb_S2048x256_S1024x256_1024_0))
    (View.ld w2 (Rect.unit (s := S2048x256) ![0, 0] S1024x256.size inb_S2048x256_S1024x256_0_0))
    (View.ld w2 (Rect.unit (s := S2048x256) ![1024, 0] S1024x256.size inb_S2048x256_S1024x256_1024_0))
    (View.ld w3 (Rect.unit (s := S256x2048) ![0, 0] S256x2048.size inb_S256x2048_S256x2048_0_0))

/-- The last 1024 rows of a tile. -/
def halfBot (x0 : Vec F S2048x1024 .bf16) (w1 w2 : Vec F S2048x256 .bf16) (w3 : Vec F S256x2048 .bf16) : Vec F S1024x1024 .bf16 :=
  k0_pay4 (View.ld x0 (Rect.unit (s := S2048x1024) ![1024, 0] S1024x1024.size inb_S2048x1024_S1024x1024_1024_0))
    (View.ld w1 (Rect.unit (s := S2048x256) ![0, 0] S1024x256.size inb_S2048x256_S1024x256_0_0))
    (View.ld w1 (Rect.unit (s := S2048x256) ![1024, 0] S1024x256.size inb_S2048x256_S1024x256_1024_0))
    (View.ld w2 (Rect.unit (s := S2048x256) ![0, 0] S1024x256.size inb_S2048x256_S1024x256_0_0))
    (View.ld w2 (Rect.unit (s := S2048x256) ![1024, 0] S1024x256.size inb_S2048x256_S1024x256_1024_0))
    (View.ld w3 (Rect.unit (s := S256x2048) ![0, 0] S256x2048.size inb_S256x2048_S256x2048_0_0))

/-- The two stores that make a tile, the later first. -/
def tilePieces (x0 : Vec F S2048x1024 .bf16) (w1 w2 : Vec F S2048x256 .bf16) (w3 : Vec F S256x2048 .bf16) :
    List (View.Piece (Elt F) S2048x1024 .bf16) :=
  [⟨Rect.unit (s := S2048x1024) ![1024, 0] S1024x1024.size inb_S2048x1024_S1024x1024_1024_0, halfBot x0 w1 w2 w3⟩,
   ⟨Rect.unit (s := S2048x1024) ![0, 0] S1024x1024.size inb_S2048x1024_S1024x1024_0_0, halfTop x0 w1 w2 w3⟩]

/-- A computed tile. -/
def tile (x0 : Vec F S2048x1024 .bf16) (w1 w2 : Vec F S2048x256 .bf16) (w3 : Vec F S256x2048 .bf16) : Vec F S2048x1024 .bf16 :=
  View.canon (tilePieces x0 w1 w2 w3)

/-- The two stores fill the tile. -/
theorem tile_cover (x0 : Vec F S2048x1024 .bf16) (w1 w2 : Vec F S2048x256 .bf16) (w3 : Vec F S256x2048 .bf16) (y : S2048x1024.Idx) :
    ∃ pc ∈ tilePieces x0 w1 w2 w3, y ∈ pc.1.set :=
  View.cover_of_tiledL (tilePieces x0 w1 w2 w3) S1024x1024.size (by sl_kernel_rfl) y

/-- A whole buffer that is stored whole under a condition and kept otherwise, read back. -/
theorem read_stored_or_kept {sp : Space} {S : Shape} {e : EltTy} {M : Memref sig .tc sp S e} (hM : M.IsWhole) {P : Prop} [Decidable P]
    {off : Fin S.rank → ℕ} (inb : ∀ a, off a + S.size a ≤ S.size a) (w : S.Idx → Elt F e)
    (x : (Rect.unit off S.size inb).shape.Idx → Elt F e) :
    View.read (Elt F) M.view (if hc : P then M.view.writes (Elt F) (hM.unread w) [⟨Rect.unit off S.size inb, x⟩] else hM.unread w)
      = if P then x else w := by
  by_cases h : P
  · rw [dif_pos h, if_pos h]; exact View.read_writes_full _ _ inb _ _
  · rw [dif_neg h, if_neg h]; exact hM.read_unread _

section
variable (c : Dev nD) (i : grid0.Coords)
    (arg3 : Memref sig .tc .vmem S2048x1024 .bf16) (harg3 : arg3.IsWhole)
    (arg4 : Memref sig .tc .vmem S1x1x2048x256 .f32) (harg4 : arg4.IsWhole)
    (arg5 : Memref sig .tc .vmem S1x1x2048x256 .f32) (harg5 : arg5.IsWhole)
    (arg6 : Memref sig .tc .vmem S1x1x256x2048 .f32) (harg6 : arg6.IsWhole)
    (arg7 : Memref sig .tc .vmem S2048x1024 .bf16) (harg7 : arg7.IsWhole)
    (arg8 : Memref sig .tc .vmem S2048x256 .bf16) (harg8 : arg8.IsWhole)
    (arg9 : Memref sig .tc .vmem S2048x256 .bf16) (harg9 : arg9.IsWhole)
    (arg10 : Memref sig .tc .vmem S256x2048 .bf16) (harg10 : arg10.IsWhole)
    (x0 : Vec F S2048x1024 .bf16) (x1 : Vec F S1x1x2048x256 .f32) (x2 : Vec F S1x1x2048x256 .f32) (x3 : Vec F S1x1x256x2048 .f32)
    (w1 : Vec F S2048x256 .bf16) (w2 : Vec F S2048x256 .bf16) (w3 : Vec F S256x2048 .bf16)
    (xt0 : TbBuf (F := F) c tbE) (xt1 : TbBuf (F := F) c tbN)

/-- What the body leaves in the scratch buffers and in the tile's buffer. -/
abbrev newG : Vec F S2048x256 .bf16 := if Load c i xt0 then k0_pay1 x1 else w1
/-- The up weights that the body leaves in scratch. -/
abbrev newU : Vec F S2048x256 .bf16 := if Load c i xt0 then k0_pay2 x2 else w2
/-- The down weights that the body leaves in scratch. -/
abbrev newD : Vec F S256x2048 .bf16 := if Load c i xt0 then k0_pay3 x3 else w3
/-- The tile that the body leaves in the result's buffer: the tokens' outputs, or zeros past the used tiles. -/
abbrev newTile (g u : Vec F S2048x256 .bf16) (d : Vec F S256x2048 .bf16) : Vec F S2048x1024 .bf16 :=
  if k0_cond2 i (usedWord c xt1) = 1#1 then tile x0 g u d else k0_pay5

set_option maxHeartbeats 2000000 in
/-- One point of the call: from whole buffers, the inputs at their blocks and the scratch at any contents, the body
    leaves the inputs as they were, the scratch at `newG`, `newU`, `newD` and the tile at `newTile`. -/
theorem run (hx : k0_cond3 i (usedWord c xt1) = 1#1 ↔ ¬ k0_cond2 i (usedWord c xt1) = 1#1) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare w1 ∗ owns (c : Thread nD τ) arg9 fullShare w2 ∗ owns (c : Thread nD τ) arg10 fullShare w3 ∗ tbPt c tbE xt0 ∗ tbPt c tbN xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (newTile c i x0 xt1 (newG c i x1 w1 xt0) (newU c i x2 w2 xt0) (newD c i x3 w3 xt0)) ∗ owns (c : Thread nD τ) arg8 fullShare (newG c i x1 w1 xt0) ∗ owns (c : Thread nD τ) arg9 fullShare (newU c i x2 w2 xt0) ∗ owns (c : Thread nD τ) arg10 fullShare (newD c i x3 w3 xt0) ∗ tbPt c tbE xt0 ∗ tbPt c tbN xt1) -∗ K ⟨⟩))
          ⊢ wp frame (wpE (defs₀ (F := F)) Variants.none c none) E (cc0_moe_experts i tbE htbE tbN htbN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, HT0, HT1, Hk⟩
    obtain rfl := harg3.eq_unread hf0; obtain rfl := harg4.eq_unread hf1; obtain rfl := harg5.eq_unread hf2; obtain rfl := harg6.eq_unread hf3
    obtain rfl := harg8.eq_unread hf5; obtain rfl := harg9.eq_unread hf6; obtain rfl := harg10.eq_unread hf7
    sl_exec
    sl_step
    have eG : View.read (Elt F) arg8.view (if hc : Load c i xt0 then arg8.view.writes (Elt F) (harg8.unread w1)
          [⟨Rect.unit ![0, 0] S2048x256.size inb_S2048x256_S2048x256_0_0, k0_pay1 (View.readAt (Elt F) arg4.view
            (Rect.unit (s := S1x1x2048x256) ![0, 0, 0, 0] S1x1x2048x256.size inb_S1x1x2048x256_S1x1x2048x256_0_0_0_0).toLoadRect (harg4.unread x1))⟩]
        else harg8.unread w1) = newG c i x1 w1 xt0 :=
      (read_stored_or_kept harg8 _ _ _).trans (congrArg (fun x => if Load c i xt0 then k0_pay1 x else w1)
        ((View.readAt_full _ _ _).trans (harg4.read_unread _)))
    have eU : View.read (Elt F) arg9.view (if hc : Load c i xt0 then arg9.view.writes (Elt F) (harg9.unread w2)
          [⟨Rect.unit ![0, 0] S2048x256.size inb_S2048x256_S2048x256_0_0, k0_pay2 (View.readAt (Elt F) arg5.view
            (Rect.unit (s := S1x1x2048x256) ![0, 0, 0, 0] S1x1x2048x256.size inb_S1x1x2048x256_S1x1x2048x256_0_0_0_0).toLoadRect (harg5.unread x2))⟩]
        else harg9.unread w2) = newU c i x2 w2 xt0 :=
      (read_stored_or_kept harg9 _ _ _).trans (congrArg (fun x => if Load c i xt0 then k0_pay2 x else w2)
        ((View.readAt_full _ _ _).trans (harg5.read_unread _)))
    have eD : View.read (Elt F) arg10.view (if hc : Load c i xt0 then arg10.view.writes (Elt F) (harg10.unread w3)
          [⟨Rect.unit ![0, 0] S256x2048.size inb_S256x2048_S256x2048_0_0, k0_pay3 (View.readAt (Elt F) arg6.view
            (Rect.unit (s := S1x1x256x2048) ![0, 0, 0, 0] S1x1x256x2048.size inb_S1x1x256x2048_S1x1x256x2048_0_0_0_0).toLoadRect (harg6.unread x3))⟩]
        else harg10.unread w3) = newD c i x3 w3 xt0 :=
      (read_stored_or_kept harg10 _ _ _).trans (congrArg (fun x => if Load c i xt0 then k0_pay3 x else w3)
        ((View.readAt_full _ _ _).trans (harg6.read_unread _)))
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr
      swap; · iexact H4
      ipureintro
      by_cases h2 : (k0_cond2 i (usedWord c xt1) = 1#1)
      · rw [newTile, if_pos h2]
        split
        · exact absurd h2 (hx.1 ‹_›)
        · split
          · refine Eq.trans (congrArg (fun L => View.read (Elt F) arg7.view (arg7.view.writes (Elt F) f4 L)) ?_)
              (View.read_writes_eq_canon _ _ _ (tile_cover x0 (newG c i x1 w1 xt0) (newU c i x2 w2 xt0) (newD c i x3 w3 xt0)))
            unfold tilePieces halfBot halfTop
            sl_open_run
            simp only [View.readAt_eq_ld arg3.view, harg3.read_unread]
            rw [← eG, ← eU, ← eD]
            rfl
          · exact absurd h2 ‹_›
      · rw [newTile, if_neg h2]
        split
        · exact View.read_writes_full _ _ _ _ _
        · exact absurd (hx.2 h2) ‹_›
    isplitl [H5]
    · iexists _; isplitr
      swap; · iexact H5
      ipureintro
      exact eG
    isplitl [H6]
    · iexists _; isplitr
      swap; · iexact H6
      ipureintro
      exact eU
    isplitl [H7]
    · iexists _; isplitr
      swap; · iexact H7
      ipureintro
      exact eD
    isplitl [HT0]; · iexact HT0
    iexact HT1

end

end Cert.Proof.Moe

end
-- ==== Proof.MoeRun.lean ====
/- The whole expert call: what every buffer holds after every grid point, the run of the program and its frame. -/
module

public import proofs.«01_k».proof.Proof.MoeBody
public import Idealize.ShloMosaic.Lib.Claim

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- A bit widened and compared with zero is the bit. -/
theorem widened_bit (a : BitVec 1) : Scalar.cmpi .ne (Scalar.extui a : BitVec 32) 0#32 = 1#1 ↔ a = 1#1 := by
  revert a; decide
/-- The same of the disjunction of two bits. -/
theorem widened_or (a b : BitVec 1) :
    Scalar.cmpi .ne (Scalar.extui (Scalar.ori a b) : BitVec 32) 0#32 = 1#1 ↔ a = 1#1 ∨ b = 1#1 := by
  revert a b; decide
/-- The word comparison for equality is the bit one exactly on equal words. -/
theorem eq_bit (x y : BitVec 32) : Scalar.cmpi .eq x y = 1#1 ↔ x = y := by
  rw [show Scalar.cmpi .eq x y = IntOp.cmpi .eq x y from rfl, WordCmp.cmpi_eq_eq, WordCmp.ofBool_decide_eq_one_iff]
/-- The word comparison for difference is the bit one exactly on different words. -/
theorem ne_bit (x y : BitVec 32) : Scalar.cmpi .ne x y = 1#1 ↔ x ≠ y := by
  rw [show Scalar.cmpi .ne x y = IntOp.cmpi .ne x y from rfl, WordCmp.cmpi_ne_eq, WordCmp.ofBool_decide_eq_one_iff]

/-- The point's tile is used: its number is below the count. -/
theorem used_iff (i : grid0.Coords) (w : BitVec 32) :
    k0_cond2 i w = 1#1 ↔ (BitVec.ofNat 32 (i 0).val).toInt < w.toInt := by
  unfold k0_cond2
  refine (widened_bit _).trans ?_
  rw [show ∀ x y : BitVec 32, Scalar.cmpi .slt x y = IntOp.cmpi .slt x y from fun _ _ => rfl, WordCmp.cmpi_slt_eq,
    WordCmp.ofBool_decide_eq_one_iff]

/-- The point's tile is unused: the condition of the zero store is the other's negation. -/
theorem unused_iff (i : grid0.Coords) (w : BitVec 32) : k0_cond3 i w = 1#1 ↔ ¬ k0_cond2 i w = 1#1 := by
  rw [used_iff, not_lt]
  unfold k0_cond3
  refine (widened_bit _).trans ?_
  rw [show ∀ x y : BitVec 32, Scalar.cmpi .sge x y = IntOp.cmpi .sge x y from fun _ _ => rfl, WordCmp.cmpi_sge_eq,
    WordCmp.ofBool_decide_eq_one_iff]

/-- The weights are taken at the first tile and where the expert changes. -/
theorem load_iff (c : Dev nD) (i : grid0.Coords) (xt0 : TbBuf (F := F) c tbE) :
    Load c i xt0 ↔ BitVec.ofNat 32 (i 0).val = 0#32 ∨ expWord c i xt0 ≠ prevWord c i xt0 :=
  (widened_or _ _).trans (or_congr (eq_bit _ _) (ne_bit _ _))

/-- The tile before point `t`'s is point `t - 1`'s. -/
theorem off2_eq : ∀ t : Fin grid0.N, 0 < t.val → k0_off2 (grid0.coords t) = k0_off1 (grid0.coords ⟨t.val - 1, lt_of_le_of_lt (Nat.sub_le _ _) t.isLt⟩) := by
  decide +kernel
/-- The first point's coordinate is zero. -/
theorem coord_zero : ∀ t : Fin grid0.N, t.val = 0 → BitVec.ofNat 32 (grid0.coords t 0).val = 0#32 := by decide +kernel

/-- A one-word load is the same at equal offsets. -/
theorem word_congr (c : Dev nD) (xt0 : TbBuf (F := F) c tbE) {p q : Fin S352.rank → ℕ} (e : p = q)
    (hp : ∀ a, p a + S1.size a ≤ S352.size a) (hq : ∀ a, q a + S1.size a ≤ S352.size a) (k : S1.Idx) :
    View.readAt (Elt F) tbE.view (Rect.unit (s := S352) p S1.size hp).toLoadRect xt0 k
      = View.readAt (Elt F) tbE.view (Rect.unit (s := S352) q S1.size hq).toLoadRect xt0 k := by
  subst e; rfl

variable (m : (ℓ : Loc nD τ sig) → Buf (Elt F) ℓ) (ρ : Dev nD → PrngReg)

/-- The weights' blocks of two points are the same when the points' experts are. -/
theorem wg_congr (hO : Ok m) (c : Dev nD) (s t : Fin (cfgM m hO).N)
    (e : expWord c (grid0.coords s) (tbl m 0) = expWord c (grid0.coords t) (tbl m 0)) :
    (iblk m hO c 1 s : Vec F S1x1x2048x256 .f32) = iblk m hO c 1 t := by
  have key : cc0_transform_1 k0_off1_inb numel1_S1 (tbl m) (grid0.coords s) = cc0_transform_1 k0_off1_inb numel1_S1 (tbl m) (grid0.coords t) :=
    congrArg (fun w : BitVec 32 => (![0, w.toNat, 0, 0] : Fin 4 → ℕ)) e
  funext y
  unfold iblk
  refine congrArg (V m c main_arg3) ?_
  funext a; apply Fin.ext
  exact congrArg (fun f : Fin 4 → ℕ => f a * S1x1x2048x256.size a + 1 * (y a).val) key
/-- Points with the same expert have the same block of up weights. -/
theorem wu_congr (hO : Ok m) (c : Dev nD) (s t : Fin (cfgM m hO).N)
    (e : expWord c (grid0.coords s) (tbl m 0) = expWord c (grid0.coords t) (tbl m 0)) :
    (iblk m hO c 2 s : Vec F S1x1x2048x256 .f32) = iblk m hO c 2 t := by
  have key : cc0_transform_2 k0_off1_inb numel1_S1 (tbl m) (grid0.coords s) = cc0_transform_2 k0_off1_inb numel1_S1 (tbl m) (grid0.coords t) :=
    congrArg (fun w : BitVec 32 => (![0, w.toNat, 0, 0] : Fin 4 → ℕ)) e
  funext y
  unfold iblk
  refine congrArg (V m c main_arg4) ?_
  funext a; apply Fin.ext
  exact congrArg (fun f : Fin 4 → ℕ => f a * S1x1x2048x256.size a + 1 * (y a).val) key
/-- Points with the same expert have the same block of down weights. -/
theorem wd_congr (hO : Ok m) (c : Dev nD) (s t : Fin (cfgM m hO).N)
    (e : expWord c (grid0.coords s) (tbl m 0) = expWord c (grid0.coords t) (tbl m 0)) :
    (iblk m hO c 3 s : Vec F S1x1x256x2048 .f32) = iblk m hO c 3 t := by
  have key : cc0_transform_3 k0_off1_inb numel1_S1 (tbl m) (grid0.coords s) = cc0_transform_3 k0_off1_inb numel1_S1 (tbl m) (grid0.coords t) :=
    congrArg (fun w : BitVec 32 => (![0, w.toNat, 0, 0] : Fin 4 → ℕ)) e
  funext y
  unfold iblk
  refine congrArg (V m c main_arg5) ?_
  funext a; apply Fin.ext
  exact congrArg (fun f : Fin 4 → ℕ => f a * S1x1x256x2048.size a + 1 * (y a).val) key

/-! ## The proof data -/

/-- The expert's weights at point `t` as the scratch buffers hold them. -/
def wG (hO : Ok m) (c : Dev nD) (t : Fin (cfgM m hO).N) : Vec F S2048x256 .bf16 := k0_pay1 (iblk m hO c 1 t)
/-- The up weights at point `t`, as the scratch buffer holds them. -/
def wU (hO : Ok m) (c : Dev nD) (t : Fin (cfgM m hO).N) : Vec F S2048x256 .bf16 := k0_pay2 (iblk m hO c 2 t)
/-- The down weights at point `t`, as the scratch buffer holds them. -/
def wD (hO : Ok m) (c : Dev nD) (t : Fin (cfgM m hO).N) : Vec F S256x2048 .bf16 := k0_pay3 (iblk m hO c 3 t)
/-- The tile that point `t` leaves in the output's buffer. -/
def outTile (hO : Ok m) (c : Dev nD) (t : Fin (cfgM m hO).N) : Vec F S2048x1024 .bf16 :=
  newTile c (grid0.coords t) (iblk m hO c 0 t) (tbl m 1) (wG m hO c t) (wU m hO c t) (wD m hO c t)

/-- What the body finds besides its windows before point `n`: at the first point the launch's, later the scratch
    buffers at the weights of the point before. -/
def heldAt (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scG fullShare (wG m hO c ⟨n, hn⟩) ∗ owns (c : Thread nD τ) scU fullShare (wU m hO c ⟨n, hn⟩)
      ∗ owns (c : Thread nD τ) scD fullShare (wD m hO c ⟨n, hn⟩)) ∗ (∃ r, prngReg c r)) ∗ Pipeline.ΦT pre0 (tbl m) c)

/-- The pipeline's data: the arrays as launched, every input's buffer at its block, the output's at `outTile`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outTile m hO c t
  Φ t := heldAt m hO c t.val (Nat.le_of_lt_succ t.isLt)
  q _ := fullShare
  owed _ := 0

/-- Each window's array at the start is what the launch finds. -/
theorem A_eq (hO : Ok m) (c : Dev nD) (w : Fin (cfgM m hO).W) : (dats m hO 0 c).A w = V m c (Pipeline.arrRef spec0 w) := by
  dsimp only [dats]
/-- The tokens' buffer is as fetched after each point. -/
theorem after_0 (hO : Ok m) (c : Dev nD) (t : Fin (cfgM m hO).N) : (dats m hO 0 c).after 0 t = iblk m hO c 0 t := by dsimp only [dats]; try rfl
/-- The gate weights' buffer is as fetched after each point. -/
theorem after_1 (hO : Ok m) (c : Dev nD) (t : Fin (cfgM m hO).N) : (dats m hO 0 c).after 1 t = iblk m hO c 1 t := by dsimp only [dats]; try rfl
/-- The up weights' buffer is as fetched after each point. -/
theorem after_2 (hO : Ok m) (c : Dev nD) (t : Fin (cfgM m hO).N) : (dats m hO 0 c).after 2 t = iblk m hO c 2 t := by dsimp only [dats]; try rfl
/-- The down weights' buffer is as fetched after each point. -/
theorem after_3 (hO : Ok m) (c : Dev nD) (t : Fin (cfgM m hO).N) : (dats m hO 0 c).after 3 t = iblk m hO c 3 t := by dsimp only [dats]; try rfl
/-- The result's buffer holds the point's tile after each point. -/
theorem after_4 (hO : Ok m) (c : Dev nD) (t : Fin (cfgM m hO).N) : (dats m hO 0 c).after 4 t = outTile m hO c t := by dsimp only [dats]; try rfl

/-- Where the body does not take the weights, the point's expert is the one of the point before. -/
theorem kept (hO : Ok m) (c : Dev nD) (n : ℕ) (hn : n + 1 < (cfgM m hO).N)
    (h : ¬ Load c (grid0.coords ⟨n + 1, hn⟩) (tbl m 0)) :
    expWord c (grid0.coords ⟨n, Nat.lt_of_succ_lt hn⟩) (tbl m 0) = expWord c (grid0.coords ⟨n + 1, hn⟩) (tbl m 0) := by
  have h' := not_or.1 fun hh => h ((load_iff c _ _).2 hh)
  exact (word_congr c _ (off2_eq ⟨n + 1, hn⟩ (Nat.succ_pos n)).symm _ _ _).trans (not_not.1 h'.2).symm

/-- Before every point the scratch buffers hold weights which the body replaces by the point's own, or which are the
    point's own already. -/
theorem held_before (hO : Ok m) (c : Dev nD) (t : Fin (cfgM m hO).N) :
    (dats m hO 0 c).Φ t.castSucc ⊢ iprop(∃ w1 w2 w3, ⌜newG c (grid0.coords t) (iblk m hO c 1 t) w1 (tbl m 0) = wG m hO c t
        ∧ newU c (grid0.coords t) (iblk m hO c 2 t) w2 (tbl m 0) = wU m hO c t ∧ newD c (grid0.coords t) (iblk m hO c 3 t) w3 (tbl m 0) = wD m hO c t⌝
      ∗ iprop(iprop(owns (c : Thread nD τ) scG fullShare w1 ∗ owns (c : Thread nD τ) scU fullShare w2 ∗ owns (c : Thread nD τ) scD fullShare w3)
        ∗ (∃ r, prngReg c r)) ∗ Pipeline.ΦT pre0 (tbl m) c) := by
  have hΦ : (dats m hO 0 c).Φ t.castSucc = heldAt m hO c t.val (Nat.le_of_lt t.isLt) := by
    dsimp only [dats]; exact Pipeline.Dat.Φ_castSucc (heldAt m hO c) t
  rw [hΦ]
  obtain ⟨n, hn⟩ := t
  cases n with
  | zero =>
    have hL : Load c (grid0.coords ⟨0, hn⟩) (tbl m 0) := (load_iff c _ _).2 (Or.inl (coord_zero ⟨0, hn⟩ rfl))
    rw [show heldAt m hO c 0 (Nat.le_of_lt hn) = iprop(Pipeline.ΦA spec0 c ∗ Pipeline.ΦT pre0 (tbl m) c) from rfl, PhiA_eq]
    iintro ⟨⟨⟨⟨%w1, H1⟩, ⟨%w2, H2⟩, ⟨%w3, H3⟩⟩, Hg⟩, HT⟩
    iexists w1; iexists w2; iexists w3
    isplitr
    · ipureintro; exact ⟨if_pos hL, if_pos hL, if_pos hL⟩
    isplitl [H1 H2 H3 Hg]
    · isplitl [H1 H2 H3]
      · isplitl [H1]; · iexact H1
        isplitl [H2]; · iexact H2
        iexact H3
      iexact Hg
    iexact HT
  | succ n =>
    have hn' : n < (cfgM m hO).N := Nat.lt_of_succ_lt hn
    rw [show heldAt m hO c (n + 1) (Nat.le_of_lt hn) = iprop(iprop(iprop(owns (c : Thread nD τ) scG fullShare (wG m hO c ⟨n, hn'⟩) ∗ owns (c : Thread nD τ) scU fullShare (wU m hO c ⟨n, hn'⟩)
      ∗ owns (c : Thread nD τ) scD fullShare (wD m hO c ⟨n, hn'⟩)) ∗ (∃ r, prngReg c r)) ∗ Pipeline.ΦT pre0 (tbl m) c) from rfl]
    iintro H
    iexists _; iexists _; iexists _
    isplitr
    swap; · iexact H
    ipureintro
    by_cases h : Load c (grid0.coords ⟨n + 1, hn⟩) (tbl m 0)
    · exact ⟨if_pos h, if_pos h, if_pos h⟩
    · have e := kept m hO c n hn h
      exact ⟨(if_neg h).trans (congrArg k0_pay1 (wg_congr m hO c _ _ e)), (if_neg h).trans (congrArg k0_pay2 (wu_congr m hO c _ _ e)),
        (if_neg h).trans (congrArg k0_pay3 (wd_congr m hO c _ _ e))⟩

/-! ## The body at every point -/

/-- The body at point `t`, on what the pipeline calls it with. -/
abbrev bodyAt (hO : Ok m) (t : Fin (cfgM m hO).N) : Prog (TpuEff nD τ sig (Elt F) Λ₀ .tc) PUnit :=
  cc0_moe_experts (grid0.coords t) tbE htbE tbN htbN (ms0 m hO t) (hs0 m hO t) (ms1 m hO t) (hs1 m hO t) (ms2 m hO t) (hs2 m hO t)
    (ms3 m hO t) (hs3 m hO t) (ms4 m hO t) (hs4 m hO t) scG (Memref.isWhole_whole _) scU (Memref.isWhole_whole _) scD (Memref.isWhole_whole _)

set_option maxHeartbeats 1000000 in
/-- The body takes what it holds before point `t` to what it holds after it. -/
theorem sound (hO : Ok m) (c : Dev nD) (t : Fin (cfgM m hO).N) :
    iprop((dats m hO 0 c).Φ t.castSucc ∗ (dats m hO 0 c).owesAt () t.castSucc
      ∗ (∃ d, owns (c : Thread nD τ) (ms0 m hO t) fullShare ((dats m hO 0 c).before 0 t d))
      ∗ (∃ d, owns (c : Thread nD τ) (ms1 m hO t) fullShare ((dats m hO 0 c).before 1 t d))
      ∗ (∃ d, owns (c : Thread nD τ) (ms2 m hO t) fullShare ((dats m hO 0 c).before 2 t d))
      ∗ (∃ d, owns (c : Thread nD τ) (ms3 m hO t) fullShare ((dats m hO 0 c).before 3 t d))
      ∗ (∃ d, owns (c : Thread nD τ) (ms4 m hO t) fullShare ((dats m hO 0 c).before 4 t d)))
    ⊢ wp frame (wpE (defs₀ (F := F)) Variants.none c none) Set.univ (bodyAt m hO t) (fun _ =>
      iprop((dats m hO 0 c).Φ t.succ ∗ (dats m hO 0 c).owesAt () t.succ
        ∗ owns (c : Thread nD τ) (ms0 m hO t) fullShare ((dats m hO 0 c).after 0 t)
        ∗ owns (c : Thread nD τ) (ms1 m hO t) fullShare ((dats m hO 0 c).after 1 t)
        ∗ owns (c : Thread nD τ) (ms2 m hO t) fullShare ((dats m hO 0 c).after 2 t)
        ∗ owns (c : Thread nD τ) (ms3 m hO t) fullShare ((dats m hO 0 c).after 3 t)
        ∗ owns (c : Thread nD τ) (ms4 m hO t) fullShare ((dats m hO 0 c).after 4 t))) := by
  have b0 := fun d => before_0 m hO (dats m hO 0 c) (A_eq m hO c 0) (after_0 m hO c) t d
  have b1 := fun d => before_1 m hO (dats m hO 0 c) (A_eq m hO c 1) (after_1 m hO c) t d
  have b2 := fun d => before_2 m hO (dats m hO 0 c) (A_eq m hO c 2) (after_2 m hO c) t d
  have b3 := fun d => before_3 m hO (dats m hO 0 c) (A_eq m hO c 3) (after_3 m hO c) t d
  simp only [b0, b1, b2, b3]
  rw [show (dats m hO 0 c).owesAt () t.succ = (dats m hO 0 c).owesAt () t.castSucc from rfl,
    show (dats m hO 0 c).Φ t.succ = heldAt m hO c (t.val + 1) t.isLt from rfl, after_0, after_1, after_2, after_3, after_4]
  iintro ⟨HΦ, Ho, ⟨%d0, H0⟩, ⟨%d1, H1⟩, ⟨%d2, H2⟩, ⟨%d3, H3⟩, ⟨%d4, H4⟩⟩
  ihave HΦ := (held_before m hO c t) $$ HΦ
  rw [PhiT_eq]
  icases HΦ with ⟨%w1, %w2, %w3, %hw, ⟨⟨⟨HG, HU, HD⟩, Hg⟩, ⟨HT0, HT1⟩⟩⟩
  obtain ⟨e1, e2, e3⟩ := hw
  iapply (run c (grid0.coords t) (ms0 m hO t) (hs0 m hO t) (ms1 m hO t) (hs1 m hO t) (ms2 m hO t) (hs2 m hO t)
    (ms3 m hO t) (hs3 m hO t) (ms4 m hO t) (hs4 m hO t) scG (Memref.isWhole_whole _) scU (Memref.isWhole_whole _) scD (Memref.isWhole_whole _)
    (iblk m hO c 0 t) (iblk m hO c 1 t) (iblk m hO c 2 t) (iblk m hO c 3 t) w1 w2 w3 (tbl m 0) (tbl m 1) (unused_iff _ _) Set.univ _)
  rw [e1, e2, e3]
  isplitl [H0]; · iexact H0
  isplitl [H1]; · iexact H1
  isplitl [H2]; · iexact H2
  isplitl [H3]; · iexact H3
  isplitl [H4]; · iexists _; iexact H4
  isplitl [HG]; · iexact HG
  isplitl [HU]; · iexact HU
  isplitl [HD]; · iexact HD
  isplitl [HT0]; · iexact HT0
  isplitl [HT1]; · iexact HT1
  iintro ⟨H0, H1, H2, H3, H4, HG, HU, HD, HT0, HT1⟩
  isplitl [HG HU HD Hg HT0 HT1]
  · unfold heldAt
    rw [PhiT_eq]
    isplitl [HG HU HD Hg]
    · isplitl [HG HU HD]
      · isplitl [HG]; · iexact HG
        isplitl [HU]; · iexact HU
        iexact HD
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row at point `t`'s buffers is the body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output is written back at every point: its block is the point's own. -/
theorem out_flush (hO : Ok m) : ∀ t : Fin (cfgM m hO).N, ((cfgM m hO).win 4).flush t = true := fun t =>
  (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

/-- The output's buffer is stored at every point: one of the two conditions holds. -/
theorem out_stored (hO : Ok m) (t : Fin (cfgM m hO).N) : (cfgM m hO).idle 4 ((cfgM m hO).grid.coords t) = false := by
  show (!(k0_cond2 (grid0.coords t) ((tbl m).atD 1 ![0]) == 1#1) && !(k0_cond3 (grid0.coords t) ((tbl m).atD 1 ![0]) == 1#1)) = false
  generalize (tbl m).atD 1 ![0] = w
  have h := unused_iff (grid0.coords t) w
  by_cases h2 : k0_cond2 (grid0.coords t) w = 1#1
  · rw [h2]; rfl
  · rw [h.2 h2]; simp

/-- The library's obligation of the body, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound m hO c t) rfl .rfl fun _ => ?_
  have e := out_stored m hO t
  have e' : owns (c : Thread nD τ) (ms4 m hO t) fullShare ((dats m hO 0 c).after 4 t)
      ⊢ (bif (cfgM m hO).idle 4 ((cfgM m hO).grid.coords t) then
          (match ((cfgM m hO).win 4).flush t with
            | false => iprop(∃ d, owns (c : Thread nD τ) (((cfgM m hO).win 4).stage ((cfgM m hO).slots t 4)) fullShare ((dats m hO 0 c).before 4 t d))
            | true => owns (c : Thread nD τ) (((cfgM m hO).win 4).stage ((cfgM m hO).slots t 4)) fullShare ((dats m hO 0 c).after 4 t))
          else owns (c : Thread nD τ) (((cfgM m hO).win 4).stage ((cfgM m hO).slots t 4)) fullShare ((dats m hO 0 c).after 4 t) : sProp 𝕄) := by
    rw [e]; exact .rfl
  exact Laws.sep_mono_right (Laws.sep_mono_right (Laws.sep_mono_right (Laws.sep_mono_right (Laws.sep_mono_right (Laws.sep_mono_right e')))))

/-- The launch's hand-over is what the body finds before the first point. -/
theorem held_in (hO : Ok m) (c : Dev nD) : iprop(Pipeline.ΦA spec0 c ∗ Pipeline.ΦT pre0 (tbl m) c) ⊢ (dats m hO 0 c).Φ 0 := .rfl

/-- After any point the scratch buffers hold something and the generator is at some state. -/
theorem held_after (hO : Ok m) (c : Dev nD) (n : ℕ) (hn : n ≤ (cfgM m hO).N) (h : n ≠ 0) : heldAt m hO c n hn ⊢ Pipeline.ΦA spec0 c := by
  cases n with
  | zero => exact absurd rfl h
  | succ n =>
    unfold heldAt
    rw [PhiA_eq]
    iintro ⟨⟨⟨H1, H2, H3⟩, Hg⟩, -⟩
    isplitl [H1 H2 H3]
    · isplitl [H1]; · iexists _; iexact H1
      isplitl [H2]; · iexists _; iexact H2
      iexists _; iexact H3
    iexact Hg
/-- After the last point the scratch buffers are given back, whatever they hold. -/
theorem held_out (hO : Ok m) (c : Dev nD) : (dats m hO 0 c).Φ (Fin.last (cfgM m hO).N) ⊢ Pipeline.ΦA spec0 c :=
  held_after m hO c (cfgM m hO).N (Nat.le_refl _) (by rw [show (cfgM m hO).N = 352 from N_0]; decide)

/-! ## The run and the frame -/

set_option backward.isDefEq.respectTransparency.types false in
/-- Every execution from zero counters ends, with every array at what the pipeline's data say and every counter zero. -/
theorem run_all (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := held_in m hO) (hout := held_out m hO)

/-- The frame: every execution ends with the argument arrays unchanged and every counter zero, for any tables that
    name blocks inside the arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨frame_of m hO (dats m hO) (A_eq m hO) r h.1, h.2⟩) (run_all m ρ hO)

end Cert.Proof.Moe

end
-- ==== Proof.MoeOk.lean ====
/- The tables of the precondition name only blocks inside the arrays. -/
module

public import proofs.«01_k».proof.Proof.MoeWords
public import proofs.«01_k».proof.Proof.MoeRun
public import proofs.«01_k».proof.Defs

@[expose] public section

set_option maxRecDepth 16384

noncomputable section

namespace Cert.Proof.Moe

open Cert.Kernel2Ideal Cert.Kernel2Ideal.Gen
open Idealize.ShloMosaic Idealize.ShloMosaic.TcCoe

/-- Experts below 64 and a count of at least one make every block lie inside its array. -/
theorem ok_of {F : FTy → Type} [FloatOps F] (m : (ℓ : Loc nD τ sig) → Buf (Elt F) ℓ)
    (hE : ∀ i : S352.Idx, 0 ≤ (tbl m 0 i : BitVec 32).toInt ∧ (tbl m 0 i : BitVec 32).toInt < 64) (hN : ∀ i : S1.Idx, 1 ≤ (tbl m 1 i : BitVec 32).toInt) : Ok m := by
  refine ⟨fun i => ⟨?_, .inr (Affine.block_words_dvd (of_decide_eq_true rfl) (by decide))⟩, fun i => ⟨?_, .inl rfl⟩, fun i => ⟨?_, .inl rfl⟩, fun i => ⟨?_, .inl rfl⟩⟩
  · intro a
    have hb := (MoeWords.rows_block (i 0).val (i 0).isLt _ (hN ((Rect.unit (s := S1) ![0] S1.size inb_S1_S1_0).emb (Shape.Idx.first (numel1_S1.symm ▸ Nat.one_pos))))).2
    match a with
    | ⟨0, _⟩ => exact (Nat.mul_le_mul_right 2048 hb : _ ≤ 352 * 2048)
    | ⟨1, _⟩ => exact Nat.le_refl _
  all_goals
    intro a
    have he := hE ((Rect.unit (s := S352) (k0_off1 i) S1.size (k0_off1_inb i)).emb (Shape.Idx.first (numel1_S1.symm ▸ Nat.one_pos)))
    have hb := MoeWords.small_of_signed _ he.1 he.2
    match a with
    | ⟨0, _⟩ => exact (by decide : (0 + 1) * 1 ≤ 4)
    | ⟨1, _⟩ => exact (Nat.mul_le_mul_right 1 hb : _ ≤ 64 * 1)
    | ⟨2, _⟩ => exact Nat.le_refl _
    | ⟨3, _⟩ => exact Nat.le_refl _

section
variable (m : (ℓ : Loc nD τ sig) → Buf (Elt Ideal) ℓ) (h : Cert.Pre_Kernel2Ideal (hPre_experts_and_tiles := Cert.Pre_experts_and_tiles.Gen.facts) m)

include h
/-- Under the precondition every tile's expert is one of the 64. -/
theorem pre_experts (i : S352.Idx) : 0 ≤ (tbl m 0 i : BitVec 32).toInt ∧ (tbl m 0 i : BitVec 32).toInt < 64 := MoeWords.experts _ _ _ _ _ _ (h 0).1 i
/-- Under the precondition at least one tile is used. -/
theorem pre_tiles (i : S1.Idx) : 1 ≤ (tbl m 1 i : BitVec 32).toInt := MoeWords.tiles _ _ _ _ _ _ (h 0).2 i
/-- Under the precondition every block lies inside its array. -/
theorem ok_of_pre : Ok m := ok_of m (pre_experts m h) (pre_tiles m h)
end

end Cert.Proof.Moe

end
-- ==== Proof.MoeMath.lean ====
/- The gated feed-forward of one token row under one expert's weights, as both programs compute it. -/
module

public import Idealize.ShloMosaic.PureOps.Ideal

@[expose] public section

noncomputable section

namespace Cert.Proof.MoeMath

open Idealize.ShloMosaic

/-- A row against a column of a weight matrix. -/
def dotCol (t : Fin 2048 → EReal) (w : Fin 2048 → Fin 256 → EReal) (f : Fin 256) : EReal := ∑ k : Fin 2048, t k * w k f

/-- The hidden value: the gate times its logistic, times the up projection. -/
def hid (t : Fin 2048 → EReal) (wg wu : Fin 2048 → Fin 256 → EReal) (f : Fin 256) : EReal :=
  dotCol t wg f * Ideal.logistic (dotCol t wg f) * dotCol t wu f

/-- The feed-forward's output at one column. -/
def ff (t : Fin 2048 → EReal) (wg wu : Fin 2048 → Fin 256 → EReal) (wd : Fin 256 → Fin 2048 → EReal) (d : Fin 2048) : EReal :=
  ∑ f : Fin 256, hid t wg wu f * wd f d

end Cert.Proof.MoeMath

end
-- ==== Proof.MoeTile.lean ====
/- A half tile of the expert call at an index: the gated feed-forward of one token row. -/
module

public import proofs.«01_k».proof.Proof.MoeBody
public import proofs.«01_k».proof.Proof.MoeMath
public import Idealize.ShloMosaic.Lib.Pipeline.ValueKit

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Cert.Proof.MoeMath

/-- The token that two stored rows hold. -/
def tokRow (x : Fin 1024 → Fin 1024 → EReal) (q : Fin 512) (k : Fin 2048) : EReal := x ⟨2 * q.val + k.val / 1024, by omega⟩ ⟨k.val % 1024, by omega⟩
/-- Two weight halves, one above the other. -/
def stack (a b : Fin 1024 → Fin 256 → EReal) (k : Fin 2048) (f : Fin 256) : EReal :=
  if h : k.val < 1024 then a ⟨k.val, h⟩ f else b ⟨k.val - 1024, by omega⟩ f

/-- A token against a column of stacked weights is its halves against theirs. -/
theorem dotCol_split (x : Fin 1024 → Fin 1024 → EReal) (q : Fin 512) (a b : Fin 1024 → Fin 256 → EReal) (f : Fin 256) :
    dotCol (tokRow x q) (stack a b) f
      = (∑ k : Fin 1024, x ⟨2 * q.val, by omega⟩ k * a k f) + ∑ k : Fin 1024, x ⟨2 * q.val + 1, by omega⟩ k * b k f := by
  unfold dotCol
  rw [Fin.sum_univ_add (a := 1024) (b := 1024) (fun k => tokRow x q k * stack a b k f)]
  unfold tokRow stack
  refine congrArg₂ (· + ·) (Finset.sum_congr rfl fun k _ => ?_) (Finset.sum_congr rfl fun k _ => ?_)
  · rw [dif_pos (show (Fin.castAdd 1024 k).val < 1024 from k.isLt)]
    refine congrArg₂ (fun p q => x p q * _) (Fin.ext ?_) (Fin.ext ?_)
    · show 2 * q.val + k.val / 1024 = 2 * q.val; omega
    · show k.val % 1024 = k.val; omega
  · rw [dif_neg (show ¬ (Fin.natAdd 1024 k).val < 1024 by show ¬ 1024 + k.val < 1024; omega)]
    refine congrArg₂ (· * ·) (congrArg₂ x (Fin.ext ?_) (Fin.ext ?_)) (congrArg (fun p => b p f) (Fin.ext ?_))
    · show 2 * q.val + (1024 + k.val) / 1024 = 2 * q.val + 1; omega
    · show (1024 + k.val) % 1024 = k.val; omega
    · show 1024 + k.val - 1024 = k.val; omega

section
variable (x : FVec Ideal S1024x1024 .bf16) (a b u v : FVec Ideal S1024x256 .bf16) (w : FVec Ideal S256x2048 .bf16)

/-- The first and the second row of every pair of rows. -/
def evens : FVec Ideal S512x1024 .bf16 := rowsOfParity 0 S512x1024 x bitcasts_S1024x1024_w16_S512x1024_w32
/-- The second row of every pair of rows. -/
def odds : FVec Ideal S512x1024 .bf16 := rowsOfParity 1 S512x1024 x bitcasts_S1024x1024_w16_S512x1024_w32

/-- The rows' products with the two halves of a weight. -/
def proj (a b : FVec Ideal S1024x256 .bf16) : FVec Ideal S512x256 .f32 :=
  addf (matmul dot_S512x1024_S1024x256_S512x256_1_0_0_1_n_n none (evens x) a (constant S512x256 .f32 0x00000000#32))
    (matmul dot_S512x1024_S1024x256_S512x256_1_0_0_1_n_n none (odds x) b (constant S512x256 .f32 0x00000000#32))

/-- The 512 tokens' outputs. -/
def outs : FVec Ideal S512x2048 .f32 :=
  matmul dot_S512x256_S256x2048_S512x2048_1_0_0_1_n_n none (truncf .bf16 (mulf (mulf (proj x a b) (logistic (proj x a b))) (proj x u v)) bitsLt_bf16_f32 : FVec Ideal S512x256 .bf16) w (constant S512x2048 .f32 0x00000000#32)

/-- The first rows, read at an index. -/
theorem even_at (q : Fin 512) (k : Fin 1024) : evens x (ix2 q k) = x (ix2 (⟨2 * q.val, by omega⟩ : Fin 1024) k) := by
  unfold evens rowsOfParity
  refine congrArg x (funext fun a => ?_)
  match a with
  | ⟨0, _⟩ => rfl
  | ⟨1, _⟩ => rfl
/-- The second rows, read at an index. -/
theorem odd_at (q : Fin 512) (k : Fin 1024) : odds x (ix2 q k) = x (ix2 (⟨2 * q.val + 1, by omega⟩ : Fin 1024) k) := by
  unfold odds rowsOfParity
  refine congrArg x (funext fun a => ?_)
  match a with
  | ⟨0, _⟩ => rfl
  | ⟨1, _⟩ => rfl

/-- The sum of the two half products is the token's product with the whole weight. -/
theorem proj_at (q : Fin 512) (f : Fin 256) : proj x a b (ix2 q f)
    = dotCol (tokRow (fun r c => x (ix2 r c)) q) (stack (fun k f => a (ix2 k f)) fun k f => b (ix2 k f)) f := by
  rw [dotCol_split]
  unfold proj
  simp only [← even_at, ← odd_at]
  generalize evens x = lo
  generalize odds x = hi
  pointwise

/-- A token's outputs are its feed-forward. -/
theorem outs_at (q : Fin 512) (d : Fin 2048) : outs x a b u v w (ix2 q d)
    = ff (tokRow (fun r c => x (ix2 r c)) q) (stack (fun k f => a (ix2 k f)) fun k f => b (ix2 k f)) (stack (fun k f => u (ix2 k f)) fun k f => v (ix2 k f))
      (fun f d => w (ix2 f d)) d := by
  unfold ff hid
  simp only [← proj_at]
  unfold outs
  generalize proj x a b = g
  generalize proj x u v = h
  pointwise

/-- The stored rows of a half tile: a token's two halves, one after the other. -/
theorem half_eq : (k0_pay6 (F := Ideal) x a b u v w : S1024x1024.Idx → EReal) = interleaveRows S1024x1024 (extractStridedSlice S512x1024 ![0, 0] (outs x a b u v w) slices_S512x2048_o0_0_S512x1024)
    (extractStridedSlice S512x1024 ![0, 1024] (outs x a b u v w) slices_S512x2048_o0_1024_S512x1024) bitcasts_S1024x1024_w16_S512x1024_w32 := rfl
/-- Both halves of a tile are stored by the same expression. -/
theorem half_eq' : k0_pay4 (F := Ideal) x a b u v w = k0_pay6 (F := Ideal) x a b u v w := rfl

/-- A stored entry of a half tile is its token's feed-forward at the entry's channel. -/
theorem half_at (r C : Fin 1024) : (k0_pay6 (F := Ideal) x a b u v w : S1024x1024.Idx → EReal) (ix2 r C)
    = ff (tokRow (fun r c => x (ix2 r c)) ⟨r.val / 2, by omega⟩) (stack (fun k f => a (ix2 k f)) fun k f => b (ix2 k f)) (stack (fun k f => u (ix2 k f)) fun k f => v (ix2 k f))
      (fun f d => w (ix2 f d)) ⟨r.val % 2 * 1024 + C.val, by omega⟩ := by
  rw [half_eq, ← outs_at]
  generalize outs x a b u v w = y
  have e : ∀ lo hi : S512x1024.Idx → EReal, interleaveRows S1024x1024 lo hi bitcasts_S1024x1024_w16_S512x1024_w32 (ix2 r C)
      = if r.val % 2 = 0 then lo (ix2 (⟨r.val / 2, by omega⟩ : Fin 512) C) else hi (ix2 (⟨r.val / 2, by omega⟩ : Fin 512) C) := by
    intro lo hi
    have j : ∀ f : (b : Fin 2) → Fin (S512x1024.size b), (f 0).val = r.val / 2 → (f 1).val = C.val → (f : S512x1024.Idx) = ix2 (⟨r.val / 2, by omega⟩ : Fin 512) C := by
      intro f h0 h1
      funext b
      match b with
      | ⟨0, _⟩ => exact Fin.ext h0
      | ⟨1, _⟩ => exact Fin.ext h1
    unfold interleaveRows
    show (if r.val % 2 = 0 then lo _ else hi _) = _
    by_cases h : r.val % 2 = 0
    · rw [if_pos h, if_pos h]; exact congrArg lo (j _ rfl rfl)
    · rw [if_neg h, if_neg h]; exact congrArg hi (j _ rfl rfl)
  rw [e]
  by_cases h : r.val % 2 = 0
  · rw [if_pos h]
    pointwise
    refine congrArg y (congrArg₂ ix2 rfl (Fin.ext ?_))
    show C.val = r.val % 2 * 1024 + C.val
    omega
  · rw [if_neg h]
    pointwise
    refine congrArg y (congrArg₂ ix2 rfl (Fin.ext ?_))
    show 1024 + C.val = r.val % 2 * 1024 + C.val
    omega
end

/-- The token that two rows of a tile hold. -/
def tokAt (x : Fin 2048 → Fin 1024 → EReal) (q : Fin 1024) (k : Fin 2048) : EReal := x ⟨2 * q.val + k.val / 1024, by omega⟩ ⟨k.val % 1024, by omega⟩

section
variable (x : FVec Ideal S2048x1024 .bf16) (g u : FVec Ideal S2048x256 .bf16) (w : FVec Ideal S256x2048 .bf16)

/-- A tile at an index. -/
def tileVal (i : S2048x1024.Idx) : EReal :=
  ff (tokAt (fun r c => x (ix2 r c)) ⟨(i 0).val / 2, by have : (i 0).val < 2048 := (i 0).isLt; omega⟩) (fun k f => g (ix2 k f)) (fun k f => u (ix2 k f))
    (fun f d => w (ix2 f d)) ⟨(i 0).val % 2 * 1024 + (i 1).val, by have : (i 1).val < 1024 := (i 1).isLt; omega⟩

/-- A weight's two halves stacked are the weight. -/
theorem stack_eq (g : FVec Ideal S2048x256 .bf16) :
    stack (fun k f => View.ld (Val := Elt Ideal) (e' := .bf16) g (Rect.unit (s := S2048x256) ![0, 0] S1024x256.size inb_S2048x256_S1024x256_0_0) (ix2 k f))
      (fun k f => View.ld (Val := Elt Ideal) (e' := .bf16) g (Rect.unit (s := S2048x256) ![1024, 0] S1024x256.size inb_S2048x256_S1024x256_1024_0) (ix2 k f))
      = fun k f => g (ix2 k f) := by
  funext k f
  unfold stack
  split
  · refine congrArg g (funext fun a => Fin.ext ?_)
    match a with
    | ⟨0, _⟩ => show 0 + 1 * k.val = k.val; omega
    | ⟨1, _⟩ => show 0 + 1 * f.val = f.val; omega
  · refine congrArg g (funext fun a => Fin.ext ?_)
    match a with
    | ⟨0, _⟩ => show 1024 + 1 * (k.val - 1024) = k.val; omega
    | ⟨1, _⟩ => show 0 + 1 * f.val = f.val; omega

/-- The down weights are read whole. -/
theorem down_eq (w : FVec Ideal S256x2048 .bf16) :
    (fun f d => View.ld (Val := Elt Ideal) (e' := .bf16) w (Rect.unit (s := S256x2048) ![0, 0] S256x2048.size inb_S256x2048_S256x2048_0_0) (ix2 f d)) = fun (f : Fin 256) (d : Fin 2048) => w (ix2 f d) := by
  funext f d
  refine congrArg w (funext fun a => Fin.ext ?_)
  match a with
  | ⟨0, _⟩ => show 0 + 1 * f.val = f.val; omega
  | ⟨1, _⟩ => show 0 + 1 * d.val = d.val; omega

/-- The second half of a tile holds the tile's values. -/
theorem bot_at (r d : Fin 1024) : (halfBot (F := Ideal) x g u w : S1024x1024.Idx → EReal) (ix2 r d)
    = tileVal x g u w ((Rect.unit (s := S2048x1024) ![1024, 0] S1024x1024.size inb_S2048x1024_S1024x1024_1024_0).emb (ix2 r d)) := by
  unfold halfBot
  rw [half_eq']
  refine (half_at _ _ _ _ _ _ r d).trans ?_
  rw [stack_eq g, stack_eq u, down_eq w]
  unfold tileVal
  refine congr (congrFun (congrFun (congrFun (congrArg ff (funext fun k => ?_)) _) _) _) (Fin.ext ?_)
  · refine congrArg x (funext fun a => Fin.ext ?_)
    match a with
    | ⟨0, _⟩ => show 1024 + 1 * (2 * (r.val / 2) + k.val / 1024) = 2 * ((1024 + 1 * r.val) / 2) + k.val / 1024; omega
    | ⟨1, _⟩ => show 0 + 1 * (k.val % 1024) = k.val % 1024; omega
  · show r.val % 2 * 1024 + d.val = (1024 + 1 * r.val) % 2 * 1024 + (0 + 1 * d.val); omega

/-- The first half of a tile holds the tile's values. -/
theorem top_at (r d : Fin 1024) : (halfTop (F := Ideal) x g u w : S1024x1024.Idx → EReal) (ix2 r d)
    = tileVal x g u w ((Rect.unit (s := S2048x1024) ![0, 0] S1024x1024.size inb_S2048x1024_S1024x1024_0_0).emb (ix2 r d)) := by
  unfold halfTop
  refine (half_at _ _ _ _ _ _ r d).trans ?_
  rw [stack_eq g, stack_eq u, down_eq w]
  unfold tileVal
  refine congr (congrFun (congrFun (congrFun (congrArg ff (funext fun k => ?_)) _) _) _) (Fin.ext ?_)
  · refine congrArg x (funext fun a => Fin.ext ?_)
    match a with
    | ⟨0, _⟩ => show 0 + 1 * (2 * (r.val / 2) + k.val / 1024) = 2 * ((0 + 1 * r.val) / 2) + k.val / 1024; omega
    | ⟨1, _⟩ => show 0 + 1 * (k.val % 1024) = k.val % 1024; omega
  · show r.val % 2 * 1024 + d.val = (0 + 1 * r.val) % 2 * 1024 + (0 + 1 * d.val); omega

/-- The two stores make the tile. -/
theorem tile_eq : tile (F := Ideal) x g u w = tileVal x g u w := by
  funext i
  refine View.canon_apply_of_pieces (Val := Elt Ideal) (e := .bf16) (tileVal x g u w) (tilePieces (F := Ideal) x g u w) ?_ i (tile_cover (F := Ideal) x g u w i)
  intro p hp y
  unfold tilePieces at hp
  rcases List.mem_cons.mp hp with e | hp
  · subst e
    obtain ⟨r, d, rfl⟩ : ∃ (r d : Fin 1024), y = ix2 r d := ⟨y 0, y 1, eq_ix2 y⟩
    exact bot_at x g u w r d
  · have e := List.mem_singleton.mp hp
    subst e
    obtain ⟨r, d, rfl⟩ : ∃ (r d : Fin 1024), y = ix2 r d := ⟨y 0, y 1, eq_ix2 y⟩
    exact top_at x g u w r d
end

end Cert.Proof.Moe

end
-- ==== Proof.MoeValue.lean ====
/- What the expert call leaves in its output: every used tile's tokens through their expert's feed-forward, zeros past
   the used tiles. -/
module

public import proofs.«01_k».proof.Proof.MoeTile
public import proofs.«01_k».proof.Proof.MoeRun
public import proofs.«01_k».proof.Proof.MoeWords

@[expose] public section

set_option maxRecDepth 16384

noncomputable section

namespace Cert.Proof.Moe

open Cert.Kernel2Ideal Cert.Kernel2Ideal.Gen
open Idealize.ShloMosaic Idealize.ShloMosaic.TcCoe Idealize.ShloMosaic.Tactic
open Cert.Proof.MoeMath

variable (m : (ℓ : Loc nD τ sig) → Buf (Elt Ideal) ℓ) (c : Dev nD)

/-- What the launch finds: the tiles' experts, the count of used tiles, the token rows and the first layer's weights. -/
def kte (t : Fin 352) : BitVec 32 := m ((c : Thread nD τ).loc main_arg0) (ix1 t)
/-- The number of used tiles. -/
def knu : BitVec 32 := m ((c : Thread nD τ).loc main_arg1) (ix1 0)
/-- A token's channel, from its two rows of the given array. -/
def ktok (r : Fin 360448) (k : Fin 2048) : EReal :=
  m ((c : Thread nD τ).loc main_arg2) (ix2 (⟨2 * r.val + k.val / 1024, by omega⟩ : Fin 720896) (⟨k.val % 1024, by omega⟩ : Fin 1024))
/-- The first layer's gate weights. -/
def kwg (e : Fin 64) (k : Fin 2048) (f : Fin 256) : EReal := m ((c : Thread nD τ).loc main_arg3) (ix4 (0 : Fin 4) e k f)
/-- The first layer's up weights. -/
def kwu (e : Fin 64) (k : Fin 2048) (f : Fin 256) : EReal := m ((c : Thread nD τ).loc main_arg4) (ix4 (0 : Fin 4) e k f)
/-- The first layer's down weights. -/
def kwd (e : Fin 64) (f : Fin 256) (d : Fin 2048) : EReal := m ((c : Thread nD τ).loc main_arg5) (ix4 (0 : Fin 4) e f d)

/-- A tile's expert. -/
def kex (t : Fin 352) : Fin 64 := ⟨(kte m c t).toNat % 64, Nat.mod_lt _ (by decide)⟩

/-- The output at a row and a column. -/
def kOutAt (R : Fin 720896) (C : Fin 1024) : EReal :=
  if ((R.val / 2048 : ℕ) : ℤ) < (knu m c).toInt then
    ff (ktok m c ⟨R.val / 2, by omega⟩) (kwg m c (kex m c ⟨R.val / 2048, by omega⟩)) (kwu m c (kex m c ⟨R.val / 2048, by omega⟩))
      (kwd m c (kex m c ⟨R.val / 2048, by omega⟩)) ⟨R.val % 2 * 1024 + C.val, by omega⟩
  else 0
/-- The whole output array. -/
def kOut : S720896x1024.Idx → EReal := fun i => kOutAt m c (i 0) (i 1)

/-! ## The words the body and the windows read -/

/-- A point's coordinate is its number. -/
theorem coord_eq : ∀ t : Fin grid0.N, (grid0.coords t 0).val = t.val := by decide +kernel
/-- There are 352 points. -/
theorem lt_points (t : Fin grid0.N) : t.val < 352 := lt_of_lt_of_eq t.isLt N_0

/-- The body's count is the table's. -/
theorem used_word : (usedWord c (tbl m 1) : BitVec 32) = knu m c := by
  obtain rfl : c = 0 := Subsingleton.elim _ _
  refine congrArg (m (((0 : Dev nD) : Thread nD τ).loc main_arg1)) ?_
  funext a
  match a with
  | ⟨0, _⟩ => rfl

/-- The body's expert at a point is the table's entry. -/
theorem expert_word (t : Fin grid0.N) : (expWord c (grid0.coords t) (tbl m 0) : BitVec 32) = kte m c ⟨t.val, lt_points t⟩ := by
  obtain rfl : c = 0 := Subsingleton.elim _ _
  refine congrArg (m (((0 : Dev nD) : Thread nD τ).loc main_arg0)) ?_
  funext a
  obtain rfl : a = 0 := Subsingleton.elim (α := Fin 1) _ _
  apply Fin.ext
  have h : k0_off1 (grid0.coords t) 0 = t.val := by
    show (BitVec.ofNat 32 (grid0.coords t 0).val).toNat = t.val
    rw [coord_eq, BitVec.toNat_ofNat]
    have := lt_points t
    omega
  show k0_off1 (grid0.coords t) 0 + 1 * 0 = t.val
  omega

variable (hE : ∀ i : S352.Idx, 0 ≤ (tbl m 0 i : BitVec 32).toInt ∧ (tbl m 0 i : BitVec 32).toInt < 64) (hN : ∀ i : S1.Idx, 1 ≤ (tbl m 1 i : BitVec 32).toInt) (hO : Ok m)

include hE in
/-- A tile's expert is its word. -/
theorem kex_val (t : Fin 352) : (kex m c t).val = (kte m c t).toNat := by
  obtain rfl : c = 0 := Subsingleton.elim _ _
  have h := hE (ix1 t)
  exact Nat.mod_eq_of_lt (MoeWords.small_of_signed _ h.1 h.2)

include hN in
/-- The rows a used tile reads are its own. -/
theorem rows_read (t : Fin (cfgM m hO).N) (hu : (t.val : ℤ) < (knu m c).toInt) (r : Fin 2048) (k : Fin 1024) :
    (iblk m hO c 0 t : S2048x1024.Idx → EReal) (ix2 r k)
      = m ((c : Thread nD τ).loc main_arg2) (ix2 (⟨2048 * t.val + r.val, by have := lt_points t; omega⟩ : Fin 720896) k) := by
  have key : cc0_transform_0 inb_S1_S1_0 numel1_S1 (tbl m) (grid0.coords t) = ![t.val, 0] := by
    have hw : ((tbl m).at 1 (Rect.unit (s := S1) ![0] S1.size inb_S1_S1_0) numel1_S1 : BitVec 32) = knu m c := used_word m c
    have hk : 1 ≤ (knu m c).toInt := by
      obtain rfl : c = 0 := Subsingleton.elim _ _
      exact hN (ix1 0)
    have ht := lt_points t
    have := (MoeWords.rows_block t.val ht (knu m c) hk).1 hu
    show (![(Scalar.minsi (BitVec.ofNat 32 (grid0.coords t 0).val) (Scalar.subi ((tbl m).at 1 (Rect.unit (s := S1) ![0] S1.size inb_S1_S1_0) numel1_S1) 1#32)).toNat, 0] : Fin 2 → ℕ) = ![t.val, 0]
    rw [hw, coord_eq, this]
  unfold iblk
  refine congrArg (V m c main_arg2) ?_
  funext a; apply Fin.ext
  refine (congrArg (fun f : Fin 2 → ℕ => f a * S2048x1024.size a + 1 * ((ix2 r k : S2048x1024.Idx) a).val) key).trans ?_
  match a with
  | ⟨0, _⟩ => show t.val * 2048 + 1 * r.val = 2048 * t.val + r.val; omega
  | ⟨1, _⟩ => show 0 * 1024 + 1 * k.val = k.val; omega

include hE in
/-- The gate weights a point reads are its expert's. -/
theorem gate_read (t : Fin (cfgM m hO).N) (k : Fin 2048) (f : Fin 256) :
    (iblk m hO c 1 t : S1x1x2048x256.Idx → EReal) (ix4 (0 : Fin 1) (0 : Fin 1) k f) = kwg m c (kex m c ⟨t.val, lt_points t⟩) k f := by
  have key : cc0_transform_1 k0_off1_inb numel1_S1 (tbl m) (grid0.coords t) = ![0, (kex m c ⟨t.val, lt_points t⟩).val, 0, 0] := by
    rw [kex_val m c hE, ← expert_word m c t]; rfl
  unfold iblk kwg
  refine congrArg (V m c main_arg3) ?_
  funext a; apply Fin.ext
  refine (congrArg (fun q : Fin 4 → ℕ => q a * S1x1x2048x256.size a + 1 * ((ix4 (0 : Fin 1) (0 : Fin 1) k f : S1x1x2048x256.Idx) a).val) key).trans ?_
  match a with
  | ⟨0, _⟩ => rfl
  | ⟨1, _⟩ => show (kex m c ⟨t.val, lt_points t⟩).val * 1 + 1 * 0 = (kex m c ⟨t.val, lt_points t⟩).val; omega
  | ⟨2, _⟩ => show 0 * 2048 + 1 * k.val = k.val; omega
  | ⟨3, _⟩ => show 0 * 256 + 1 * f.val = f.val; omega

include hE in
/-- The up weights a point reads are its expert's. -/
theorem up_read (t : Fin (cfgM m hO).N) (k : Fin 2048) (f : Fin 256) :
    (iblk m hO c 2 t : S1x1x2048x256.Idx → EReal) (ix4 (0 : Fin 1) (0 : Fin 1) k f) = kwu m c (kex m c ⟨t.val, lt_points t⟩) k f := by
  have key : cc0_transform_2 k0_off1_inb numel1_S1 (tbl m) (grid0.coords t) = ![0, (kex m c ⟨t.val, lt_points t⟩).val, 0, 0] := by
    rw [kex_val m c hE, ← expert_word m c t]; rfl
  unfold iblk kwu
  refine congrArg (V m c main_arg4) ?_
  funext a; apply Fin.ext
  refine (congrArg (fun q : Fin 4 → ℕ => q a * S1x1x2048x256.size a + 1 * ((ix4 (0 : Fin 1) (0 : Fin 1) k f : S1x1x2048x256.Idx) a).val) key).trans ?_
  match a with
  | ⟨0, _⟩ => rfl
  | ⟨1, _⟩ => show (kex m c ⟨t.val, lt_points t⟩).val * 1 + 1 * 0 = (kex m c ⟨t.val, lt_points t⟩).val; omega
  | ⟨2, _⟩ => show 0 * 2048 + 1 * k.val = k.val; omega
  | ⟨3, _⟩ => show 0 * 256 + 1 * f.val = f.val; omega

include hE in
/-- The down weights a point reads are its expert's. -/
theorem down_read (t : Fin (cfgM m hO).N) (f : Fin 256) (d : Fin 2048) :
    (iblk m hO c 3 t : S1x1x256x2048.Idx → EReal) (ix4 (0 : Fin 1) (0 : Fin 1) f d) = kwd m c (kex m c ⟨t.val, lt_points t⟩) f d := by
  have key : cc0_transform_3 k0_off1_inb numel1_S1 (tbl m) (grid0.coords t) = ![0, (kex m c ⟨t.val, lt_points t⟩).val, 0, 0] := by
    rw [kex_val m c hE, ← expert_word m c t]; rfl
  unfold iblk kwd
  refine congrArg (V m c main_arg5) ?_
  funext a; apply Fin.ext
  refine (congrArg (fun q : Fin 4 → ℕ => q a * S1x1x256x2048.size a + 1 * ((ix4 (0 : Fin 1) (0 : Fin 1) f d : S1x1x256x2048.Idx) a).val) key).trans ?_
  match a with
  | ⟨0, _⟩ => rfl
  | ⟨1, _⟩ => show (kex m c ⟨t.val, lt_points t⟩).val * 1 + 1 * 0 = (kex m c ⟨t.val, lt_points t⟩).val; omega
  | ⟨2, _⟩ => show 0 * 256 + 1 * f.val = f.val; omega
  | ⟨3, _⟩ => show 0 * 2048 + 1 * d.val = d.val; omega

/-- The scratch buffers hold the blocks' matrices. -/
theorem pay1_at (x : FVec Ideal S1x1x2048x256 .f32) (k : Fin 2048) (f : Fin 256) : (k0_pay1 (F := Ideal) x : S2048x256.Idx → EReal) (ix2 k f) = x (ix4 (0 : Fin 1) (0 : Fin 1) k f) := by
  unfold k0_pay1
  pointwise
/-- The scratch buffer of the up weights holds the block's matrix. -/
theorem pay2_at (x : FVec Ideal S1x1x2048x256 .f32) (k : Fin 2048) (f : Fin 256) : (k0_pay2 (F := Ideal) x : S2048x256.Idx → EReal) (ix2 k f) = x (ix4 (0 : Fin 1) (0 : Fin 1) k f) := by
  unfold k0_pay2
  pointwise
/-- The scratch buffer of the down weights holds the block's matrix. -/
theorem pay3_at (x : FVec Ideal S1x1x256x2048 .f32) (f : Fin 256) (d : Fin 2048) : (k0_pay3 (F := Ideal) x : S256x2048.Idx → EReal) (ix2 f d) = x (ix4 (0 : Fin 1) (0 : Fin 1) f d) := by
  unfold k0_pay3
  pointwise

include hE hN in
/-- The tile a point leaves, at an index. -/
theorem outTile_at (t : Fin (cfgM m hO).N) (R : Fin 2048) (C : Fin 1024) :
    (outTile m hO c t : S2048x1024.Idx → EReal) (ix2 R C) = kOutAt m c ⟨2048 * t.val + R.val, by have := lt_points t; omega⟩ C := by
  have ht := lt_points t
  have hu : k0_cond2 (grid0.coords t) (usedWord c (tbl m 1)) = 1#1 ↔ (t.val : ℤ) < (knu m c).toInt := by
    refine (used_iff _ _).trans ?_
    rw [used_word m c, coord_eq, MoeWords.num_toInt _ ht]
  have eq : (2048 * t.val + R.val) / 2048 = t.val := by omega
  unfold outTile newTile kOutAt
  by_cases h : (t.val : ℤ) < (knu m c).toInt
  · rw [if_pos (hu.2 h), if_pos (by show (((2048 * t.val + R.val) / 2048 : ℕ) : ℤ) < _; rw [eq]; exact h)]
    refine (congrFun (tile_eq _ _ _ _) _).trans ?_
    unfold tileVal
    have et : (⟨(2048 * t.val + R.val) / 2048, by omega⟩ : Fin 352) = ⟨t.val, ht⟩ := Fin.ext eq
    simp only [et]
    refine congr (congr (congr (congr (congrArg ff (funext fun k => ?_)) (funext fun k => funext fun f => ?_)) (funext fun k => funext fun f => ?_)) (funext fun f => funext fun d => ?_)) (Fin.ext ?_)
    · refine (rows_read m c hN hO t h _ _).trans ?_
      unfold ktok
      refine congrArg (m ((c : Thread nD τ).loc main_arg2)) (congrArg₂ ix2 (Fin.ext ?_) rfl)
      show 2048 * t.val + (2 * (R.val / 2) + k.val / 1024) = 2 * ((2048 * t.val + R.val) / 2) + k.val / 1024
      omega
    · exact (pay1_at _ k f).trans (gate_read m c hE hO t k f)
    · exact (pay2_at _ k f).trans (up_read m c hE hO t k f)
    · exact (pay3_at _ f d).trans (down_read m c hE hO t f d)
    · show R.val % 2 * 1024 + C.val = (2048 * t.val + R.val) % 2 * 1024 + C.val
      omega
  · rw [if_neg fun h' => h (hu.1 h'), if_neg (by show ¬ (((2048 * t.val + R.val) / 2048 : ℕ) : ℤ) < _; rw [eq]; exact h)]
    exact Ideal.ofBits_zero .bf16

/-- The blocks written back fill the output. -/
theorem out_covers : ((cfgM m hO).win 4).Covers := by
  refine ⟨fun a => ?_, fun β => ?_⟩
  · match a with
    | ⟨0, _⟩ => exact (by decide : 0 < 2048)
    | ⟨1, _⟩ => exact (by decide : 0 < 1024)
  · have hβ : (β (0 : Fin 2)).val < 352 := lt_of_lt_of_eq (β (0 : Fin 2)).isLt (by decide : (720896 + 2048 - 1) / 2048 = 352)
    have hβ1 : (β (1 : Fin 2)).val < 1 := lt_of_lt_of_eq (β (1 : Fin 2)).isLt (by decide : (1024 + 1024 - 1) / 1024 = 1)
    refine ⟨⟨(β (0 : Fin 2)).val, lt_of_lt_of_eq hβ N_0.symm⟩, out_flush m hO _, fun a => ⟨?_, Or.inl rfl⟩⟩
    match a with
    | ⟨0, _⟩ =>
      show (BitVec.ofNat 32 (grid0.coords _ 0).val).toNat = (β (0 : Fin 2)).val
      rw [coord_eq, BitVec.toNat_ofNat]
      exact Nat.mod_eq_of_lt (lt_of_lt_of_le hβ (by norm_num))
    | ⟨1, _⟩ => show 0 = (β (1 : Fin 2)).val; omega

include hE hN in
/-- The output array when the call ends. -/
theorem final4 : (dats m hO 0 c).arrAt 4 (cfgM m hO).N = kOut m c := by
  refine (dats m hO 0 c).arrAt_eq_of_covers 4 _ (out_covers m hO) fun t hf y => ?_
  rw [after_4]
  have key : ∀ z : S2048x1024.Idx, ∃ (r : Fin 2048) (w : Fin 1024), z = ix2 r w := fun z => ⟨z 0, z 1, eq_ix2 z⟩
  obtain ⟨r, w, rfl⟩ := key y
  refine (outTile_at m c hE hN hO t r w).trans ?_
  have ht := lt_points t
  refine congrArg₂ (kOutAt m c) (Fin.ext ?_) (Fin.ext ?_)
  · show 2048 * t.val + r.val = (BitVec.ofNat 32 (grid0.coords t 0).val).toNat * 2048 + 1 * r.val
    rw [coord_eq, BitVec.toNat_ofNat]
    omega
  · show w.val = 0 * 1024 + 1 * w.val
    omega

end Cert.Proof.Moe

end
-- ==== Proof.MoeRef.lean ====
/- The expert reference: what its loop starts from, what one trip adds, and its result read at an index. -/
module

public import proofs.«01_k».proof.Proof.MoeMath
public import proofs.«01_k».proof.Proof.Gen.Reference2Ideal.Run
public import Idealize.ShloMosaic.Lib.StableHlo.ReadAt
public import Idealize.ShloMosaic.Lib.Pipeline.ValueKit
public import Idealize.ShloMosaic.Lib.WordCmp

@[expose] public section

set_option maxRecDepth 16384
noncomputable section
namespace Cert.Proof.MoeRef
open Cert.Reference2Ideal Cert.Reference2Ideal.Gen Cert.Reference2Ideal.Value Idealize.ShloMosaic Idealize.ShloMosaic.TcCoe Idealize.SL.Sem Idealize.ShloMosaic.StableHlo
open Cert.Proof.MoeMath

/-! ## What the stretches before the loop leave -/
section Stretch
variable (V : Valuation τ sig (Elt Ideal))

/-- The token rows: two stored rows of 1024 make one of 2048. -/
theorem rows_at (x : S720896x1024.Idx → EReal) (hx : V (Proc.devRef .tc main_arg2) = x) (r : Fin 360448) (k : Fin 2048) :
    after hostOps0 V (Proc.devRef .tc main_v1) (ix2 r k) = x (ix2 ⟨2 * r.val + k.val / 1024, by omega⟩ ⟨k.val % 1024, by omega⟩) := by
  after_reads_at
  rw [hx]
  exact congrArg (fun q => x (ix2 q _)) (Fin.ext (by show r.val * 2 + _ = 2 * r.val + _; omega))

/-- Whether a tile is used, as a bit. -/
theorem used_at (nu : S1.Idx → BitVec 32) (hn : V (Proc.devRef .tc main_arg1) = nu) (t : Fin 352) :
    after hostOps0 V (Proc.devRef .tc main_v5) (ix1 t) = IntOp.cmpi .slt (BitVec.ofNat 32 t.val) (nu (ix1 0)) := by
  after_reads_at
  rw [hn]

/-- The expert no row has. -/
theorem none_at : after hostOps0 V (Proc.devRef .tc main_c) = fun _ => (4294967295#32 : BitVec 32) := by
  after_reads_simp
  rfl

/-- A tile's expert, or the expert no row has. -/
theorem expert_at (b : S352.Idx → BitVec 1) (hb : V (Proc.devRef .tc main_v5) = b) (te : S352.Idx → BitVec 32) (ht : V (Proc.devRef .tc main_arg0) = te)
    (hc : V (Proc.devRef .tc main_c) = fun _ => (4294967295#32 : BitVec 32)) (t : Fin 352) :
    after hostOps0_1 V (Proc.devRef .tc main_v6) (ix1 t) = if b (ix1 t) = 1#1 then te (ix1 t) else 4294967295#32 := by
  after_reads_at
  rw [hb, ht, hc]
  rfl

/-- A row's gate for an expert. -/
theorem gates_at (w : S352.Idx → BitVec 32) (hw : V (Proc.devRef .tc main_v6) = w) (e : Fin 64) (r : Fin 360448) :
    after hostOps0_2 V (Proc.devRef .tc main_v23_3) (ix2 e r)
      = (FloatOps.uitofp (F := Ideal) .f32 (IntOp.cmpi .eq (BitVec.ofNat 32 e.val) (w (ix1 ⟨r.val / 1024, by omega⟩))) : EReal) := by
  after_reads_at
  rw [hw]
  dsimp only [id]
  pointwise

/-- The gate weights are those of the first layer. -/
theorem wg_at (x : S4x64x2048x256.Idx → EReal) (hx : V (Proc.devRef .tc main_arg3) = x) (e : Fin 64) (k : Fin 2048) (f : Fin 256) :
    after hostOps0_2 V (Proc.devRef .tc main_v23_0) (ix3 e k f) = x (ix4 0 e k f) := by
  after_reads_at
  rw [hx]
  rfl
/-- The up weights are those of the first layer. -/
theorem wu_at (x : S4x64x2048x256.Idx → EReal) (hx : V (Proc.devRef .tc main_arg4) = x) (e : Fin 64) (k : Fin 2048) (f : Fin 256) :
    after hostOps0_2 V (Proc.devRef .tc main_v23_1) (ix3 e k f) = x (ix4 0 e k f) := by
  after_reads_at
  rw [hx]
  rfl
/-- The down weights are those of the first layer. -/
theorem wd_at (x : S4x64x256x2048.Idx → EReal) (hx : V (Proc.devRef .tc main_arg5) = x) (e : Fin 64) (f : Fin 256) (d : Fin 2048) :
    after hostOps0_2 V (Proc.devRef .tc main_v23_2) (ix3 e f d) = x (ix4 0 e f d) := by
  after_reads_at
  rw [hx]
  rfl
/-- The loop reads the token rows. -/
theorem tokens_eq : after hostOps0_2 V (Proc.devRef .tc main_v23_4) = V (Proc.devRef .tc main_v1) := by
  after_reads_simp
  rfl
/-- The sum starts at zero. -/
theorem zero_at (r : Fin 360448) (d : Fin 2048) : after hostOps0_2 V (Proc.devRef .tc main_v23_6) (ix2 r d) = (0 : EReal) := by
  after_reads_at
  exact Ideal.ofBits_zero .f32
end Stretch

/-! ## One trip -/

/-- The trip's start words for a stack of matrices are its number and zeros. -/
theorem starts3 (k : ℕ) (hk : k < 64) (ctr : IVec S_ 32) (hc : ctr = fun _ => BitVec.ofNat 32 k) (a : Fin 3) :
    ((![ctr, constantI S_ 32 0#32, constantI S_ 32 0#32] : Fin 3 → IVec S_ 32) a (Shape.Idx.first h_S_)).toInt = ((![k, 0, 0] : Fin 3 → ℕ) a : Int) := by
  subst hc
  match a with
  | ⟨0, _⟩ => exact WordCmp.toInt_ofNat_of_lt (by omega)
  | ⟨1, _⟩ => rfl
  | ⟨2, _⟩ => rfl
/-- The same for the stack of gate rows. -/
theorem starts2 (k : ℕ) (hk : k < 64) (ctr : IVec S_ 32) (hc : ctr = fun _ => BitVec.ofNat 32 k) (a : Fin 2) :
    ((![ctr, constantI S_ 32 0#32] : Fin 2 → IVec S_ 32) a (Shape.Idx.first h_S_)).toInt = ((![k, 0] : Fin 2 → ℕ) a : Int) := by
  subst hc
  match a with
  | ⟨0, _⟩ => exact WordCmp.toInt_ofNat_of_lt (by omega)
  | ⟨1, _⟩ => rfl

/-- A matrix lies inside its stack. -/
theorem in_fits (k : ℕ) (hk : k < 64) : S64x2048x256.Slices ![k, 0, 0] S1x2048x256 := by
  refine ⟨rfl, fun a => ?_⟩
  match a with
  | ⟨0, _⟩ => show k + 1 ≤ 64; omega
  | ⟨1, _⟩ => exact Nat.le_refl _
  | ⟨2, _⟩ => exact Nat.le_refl _
/-- A matrix lies inside its stack. -/
theorem out_fits (k : ℕ) (hk : k < 64) : S64x256x2048.Slices ![k, 0, 0] S1x256x2048 := by
  refine ⟨rfl, fun a => ?_⟩
  match a with
  | ⟨0, _⟩ => show k + 1 ≤ 64; omega
  | ⟨1, _⟩ => exact Nat.le_refl _
  | ⟨2, _⟩ => exact Nat.le_refl _
/-- A row of gates lies inside the stack. -/
theorem gate_fits (k : ℕ) (hk : k < 64) : S64x360448.Slices ![k, 0] S1x360448 := by
  refine ⟨rfl, fun a => ?_⟩
  match a with
  | ⟨0, _⟩ => show k + 1 ≤ 64; omega
  | ⟨1, _⟩ => show 0 + 360448 ≤ 360448; omega

/-- The trip's gate or up weights. -/
theorem slice_in (k : ℕ) (hk : k < 64) (x : S64x2048x256.Idx → EReal) (start : Fin 3 → Int) (h : S64x2048x256.Slices (fun _ => 0) S1x2048x256)
    (e : ∀ a, start a = ((![k, 0, 0] : Fin 3 → ℕ) a : Int)) (p : Fin 2048) (f : Fin 256) :
    shapeCast S2048x256 (Host.dynamicSlice S1x2048x256 x start h) shapeCasts_S1x2048x256_S2048x256 (ix2 p f) = x (ix3 ⟨k, hk⟩ p f) := by
  rw [WordCmp.dynamicSlice_eq_extract S1x2048x256 x start h ![k, 0, 0] (in_fits k hk) e]
  pointwise
/-- The trip's down weights. -/
theorem slice_out (k : ℕ) (hk : k < 64) (x : S64x256x2048.Idx → EReal) (start : Fin 3 → Int) (h : S64x256x2048.Slices (fun _ => 0) S1x256x2048)
    (e : ∀ a, start a = ((![k, 0, 0] : Fin 3 → ℕ) a : Int)) (f : Fin 256) (d : Fin 2048) :
    shapeCast S256x2048 (Host.dynamicSlice S1x256x2048 x start h) shapeCasts_S1x256x2048_S256x2048 (ix2 f d) = x (ix3 ⟨k, hk⟩ f d) := by
  rw [WordCmp.dynamicSlice_eq_extract S1x256x2048 x start h ![k, 0, 0] (out_fits k hk) e]
  pointwise
/-- The trip's gates. -/
theorem slice_gate (k : ℕ) (hk : k < 64) (x : S64x360448.Idx → EReal) (start : Fin 2 → Int) (h : S64x360448.Slices (fun _ => 0) S1x360448)
    (e : ∀ a, start a = ((![k, 0] : Fin 2 → ℕ) a : Int)) (r : Fin 360448) :
    shapeCast S360448 (Host.dynamicSlice S1x360448 x start h) shapeCasts_S1x360448_S360448 (ix1 r) = x (ix2 ⟨k, hk⟩ r) := by
  rw [WordCmp.dynamicSlice_eq_extract S1x360448 x start h ![k, 0] (gate_fits k hk) e]
  pointwise

/-- The sum after a trip, from the sum before it, the gates and the trip's weights. -/
theorem add_at (a : FVec Ideal S360448x2048 .f32) (g : FVec Ideal S360448 .f32) (t : FVec Ideal S360448x2048 .f32) (wg wu : FVec Ideal S2048x256 .f32)
    (wd : FVec Ideal S256x2048 .f32) (r : Fin 360448) (d : Fin 2048) :
    (addf a (mulf (broadcastInDim S360448x2048 ![0, 1] bcast_S360448x1_S360448x2048_0_1 (broadcastInDim S360448x1 ![0] bcast_S360448_S360448x1_0 g))
      (Host.dotGeneral dot_S360448x256_S256x2048_S360448x2048_1_0_0_1_n_n none (mulf (mulf
        (Host.dotGeneral dot_S360448x2048_S2048x256_S360448x256_1_0_0_1_n_n none t wg)
        (Host.divf (broadcastInDim S360448x256 ![] bcast_S_S360448x256 (constant S_ .f32 0x3F800000#32)) (addf (broadcastInDim S360448x256 ![] bcast_S_S360448x256 (constant S_ .f32 0x3F800000#32))
          (Host.exp (Host.negf (Host.dotGeneral dot_S360448x2048_S2048x256_S360448x256_1_0_0_1_n_n none t wg))))))
        (Host.dotGeneral dot_S360448x2048_S2048x256_S360448x256_1_0_0_1_n_n none t wu)) wd)) : FVec Ideal S360448x2048 .f32) (ix2 r d)
      = a (ix2 r d) + g (ix1 r) * ff (fun k => t (ix2 r k)) (fun k f => wg (ix2 k f)) (fun k f => wu (ix2 k f)) (fun f d => wd (ix2 f d)) d := by
  unfold ff hid dotCol
  pointwise
  rfl

/-- The sum after trip `k`, from the stacks. -/
theorem trip_at (k : ℕ) (hk : k < 64) (a : FVec Ideal S360448x2048 .f32) (G : FVec Ideal S64x360448 .f32) (T : FVec Ideal S360448x2048 .f32) (WG WU : FVec Ideal S64x2048x256 .f32)
    (WD : FVec Ideal S64x256x2048 .f32) (ctr : IVec S_ 32) (hc : ctr = fun _ => BitVec.ofNat 32 k) (r : Fin 360448) (d : Fin 2048) :
    (id (addf a (mulf (broadcastInDim S360448x2048 ![0, 1] bcast_S360448x1_S360448x2048_0_1 (broadcastInDim S360448x1 ![0] bcast_S360448_S360448x1_0
        (shapeCast S360448 (Host.dynamicSlice S1x360448 G (fun k => ((![ctr, constantI S_ 32 0#32] : Fin 2 → IVec S_ 32) k (Shape.Idx.first h_S_)).toInt) sliceFits_S64x360448_S1x360448) shapeCasts_S1x360448_S360448)))
      (Host.dotGeneral dot_S360448x256_S256x2048_S360448x2048_1_0_0_1_n_n none (mulf (mulf
        (Host.dotGeneral dot_S360448x2048_S2048x256_S360448x256_1_0_0_1_n_n none T (shapeCast S2048x256 (Host.dynamicSlice S1x2048x256 WG (fun k => ((![ctr, constantI S_ 32 0#32, constantI S_ 32 0#32] : Fin 3 → IVec S_ 32) k (Shape.Idx.first h_S_)).toInt) sliceFits_S64x2048x256_S1x2048x256) shapeCasts_S1x2048x256_S2048x256))
        (Host.divf (broadcastInDim S360448x256 ![] bcast_S_S360448x256 (constant S_ .f32 0x3F800000#32)) (addf (broadcastInDim S360448x256 ![] bcast_S_S360448x256 (constant S_ .f32 0x3F800000#32))
          (Host.exp (Host.negf (Host.dotGeneral dot_S360448x2048_S2048x256_S360448x256_1_0_0_1_n_n none T (shapeCast S2048x256 (Host.dynamicSlice S1x2048x256 WG (fun k => ((![ctr, constantI S_ 32 0#32, constantI S_ 32 0#32] : Fin 3 → IVec S_ 32) k (Shape.Idx.first h_S_)).toInt) sliceFits_S64x2048x256_S1x2048x256) shapeCasts_S1x2048x256_S2048x256)))))))
        (Host.dotGeneral dot_S360448x2048_S2048x256_S360448x256_1_0_0_1_n_n none T (shapeCast S2048x256 (Host.dynamicSlice S1x2048x256 WU (fun k => ((![ctr, constantI S_ 32 0#32, constantI S_ 32 0#32] : Fin 3 → IVec S_ 32) k (Shape.Idx.first h_S_)).toInt) sliceFits_S64x2048x256_S1x2048x256) shapeCasts_S1x2048x256_S2048x256)))
        (shapeCast S256x2048 (Host.dynamicSlice S1x256x2048 WD (fun k => ((![ctr, constantI S_ 32 0#32, constantI S_ 32 0#32] : Fin 3 → IVec S_ 32) k (Shape.Idx.first h_S_)).toInt) sliceFits_S64x256x2048_S1x256x2048) shapeCasts_S1x256x2048_S256x2048)))) : FVec Ideal S360448x2048 .f32) (ix2 r d)
      = a (ix2 r d) + G (ix2 ⟨k, hk⟩ r) * ff (fun k => T (ix2 r k)) (fun p f => WG (ix3 ⟨k, hk⟩ p f)) (fun p f => WU (ix3 ⟨k, hk⟩ p f)) (fun f d => WD (ix3 ⟨k, hk⟩ f d)) d := by
  refine (add_at a _ T _ _ _ r d).trans ?_
  rw [slice_gate k hk G _ _ (starts2 k hk _ hc),
    funext fun p => funext fun f => slice_in k hk WG _ sliceFits_S64x2048x256_S1x2048x256 (starts3 k hk _ hc) p f,
    funext fun p => funext fun f => slice_in k hk WU _ sliceFits_S64x2048x256_S1x2048x256 (starts3 k hk _ hc) p f,
    funext fun f => funext fun d => slice_out k hk WD _ sliceFits_S64x256x2048_S1x256x2048 (starts3 k hk _ hc) f d]

/-! ## What the launch's memory makes of them -/
variable (m : (ℓ : Loc nD τ sig) → Buf (Elt Ideal) ℓ) (c : Dev nD)

/-- The buffers' contents before each stretch. -/
def W0 : Valuation τ sig (Elt Ideal) := fun b => m (c, b)
/-- The contents after the first stretch. -/
def W1 : Valuation τ sig (Elt Ideal) := after hostOps0 (W0 m c)
/-- The contents after the second stretch. -/
def W2 : Valuation τ sig (Elt Ideal) := after hostOps0_1 (W1 m c)
/-- The contents after the third stretch, where the loop starts. -/
def W3 : Valuation τ sig (Elt Ideal) := after hostOps0_2 (W2 m c)

/-- The loop starts from the contents after the three stretches. -/
theorem entry_eq : entryContents preI m c = W3 m c := by
  simp only [entryContents, afterL_cons, afterL_nil]
  rfl

/-- The arguments' buffers. -/
abbrev args : List (Ref sig .tc) := [main_arg0, main_arg1, main_arg2, main_arg3, main_arg4, main_arg5]

/-- The first stretch leaves the arguments. -/
theorem W1_arg (r : Ref sig .tc) (h : r ∈ args) : W1 m c (Proc.devRef .tc r) = m ((c : Thread nD τ).loc r) :=
  after_of_writes_sub _ _ hostOps0_writes ((by decide : ∀ r ∈ args, r ∉ hostOps0_W) r h)
/-- The second stretch leaves the arguments. -/
theorem W2_arg (r : Ref sig .tc) (h : r ∈ args) : W2 m c (Proc.devRef .tc r) = m ((c : Thread nD τ).loc r) :=
  (after_of_writes_sub _ _ hostOps0_1_writes ((by decide : ∀ r ∈ args, r ∉ hostOps0_1_W) r h)).trans (W1_arg m c r h)

/-- What the launch finds: the tiles' experts, the count of used tiles, the token rows and the first layer's weights. -/
def te (t : Fin 352) : BitVec 32 := m ((c : Thread nD τ).loc main_arg0) (ix1 t)
/-- The number of used tiles. -/
def nu : BitVec 32 := m ((c : Thread nD τ).loc main_arg1) (ix1 0)
/-- A token's channel, from its two rows of the given array. -/
def tok (r : Fin 360448) (k : Fin 2048) : EReal :=
  m ((c : Thread nD τ).loc main_arg2) (ix2 (⟨2 * r.val + k.val / 1024, by omega⟩ : Fin 720896) (⟨k.val % 1024, by omega⟩ : Fin 1024))
/-- The first layer's gate weights. -/
def wg (e : Fin 64) (k : Fin 2048) (f : Fin 256) : EReal := m ((c : Thread nD τ).loc main_arg3) (ix4 (0 : Fin 4) e k f)
/-- The first layer's up weights. -/
def wu (e : Fin 64) (k : Fin 2048) (f : Fin 256) : EReal := m ((c : Thread nD τ).loc main_arg4) (ix4 (0 : Fin 4) e k f)
/-- The first layer's down weights. -/
def wd (e : Fin 64) (f : Fin 256) (d : Fin 2048) : EReal := m ((c : Thread nD τ).loc main_arg5) (ix4 (0 : Fin 4) e f d)

/-- A row's expert, or the expert no row has. -/
def ew (r : Fin 360448) : BitVec 32 :=
  if IntOp.cmpi .slt (BitVec.ofNat 32 (r.val / 1024)) (nu m c) = 1#1 then te m c ⟨r.val / 1024, by omega⟩ else 4294967295#32

/-- The reference's table of experts, none past the used tiles. -/
theorem experts_at (r : Fin 360448) : W2 m c (Proc.devRef .tc main_v6) (ix1 (⟨r.val / 1024, by omega⟩ : Fin 352)) = ew m c r := by
  refine (expert_at (W1 m c) _ rfl _ (W1_arg m c main_arg0 (by decide)) (none_at (W0 m c)) _).trans ?_
  unfold ew
  exact congrArg (fun b : BitVec 1 => if b = 1#1 then te m c _ else 4294967295#32) (used_at (W0 m c) _ rfl _)

/-- A row's gate for an expert is one when it is the row's expert and zero otherwise. -/
theorem gate_at (e : Fin 64) (r : Fin 360448) : W3 m c (Proc.devRef .tc main_v23_3) (ix2 e r) = if (ew m c r).toNat = e.val then (1 : EReal) else 0 := by
  refine (gates_at (W2 m c) _ rfl e r).trans ?_
  rw [experts_at, WordCmp.cmpi_eq_eq]
  have he := e.isLt
  show (((BitVec.ofBool (decide (BitVec.ofNat 32 e.val = ew m c r))).toNat : ℝ) : EReal) = _
  by_cases h : (ew m c r).toNat = e.val
  · rw [if_pos h, decide_eq_true (by rw [← h]; simp)]
    norm_num
    rfl
  · rw [if_neg h, decide_eq_false (by intro h'; apply h; rw [← h', BitVec.toNat_ofNat]; omega)]
    norm_num

/-- What expert `e` makes of row `r`. -/
def con (e : Fin 64) (r : Fin 360448) (d : Fin 2048) : EReal := ff (tok m c r) (wg m c e) (wu m c e) (wd m c e) d

/-- The reference's tokens, each as one row. -/
theorem tok_at (r : Fin 360448) (k : Fin 2048) : W3 m c (Proc.devRef .tc main_v23_4) (ix2 r k) = tok m c r k := by
  have e2 : W3 m c (Proc.devRef .tc main_v23_4) = W1 m c (Proc.devRef .tc main_v1) :=
    (tokens_eq (W2 m c)).trans (after_of_writes_sub _ _ hostOps0_1_writes (by decide))
  rw [e2]
  exact rows_at (W0 m c) _ rfl r k

/-- The carried sum. -/
def acc (V : Valuation τ sig (Elt Ideal)) : S360448x2048.Idx → EReal := V (Proc.devRef .tc main_v23_6)

/-- What the carried buffers hold after `k` trips: rows whose expert has had its turn hold its output, the others zero. -/
structure Inv (k : ℕ) (V : Valuation τ sig (Elt Ideal)) : Prop where
  ctr : V (Proc.devRef .tc main_v23_5) = fun _ => (BitVec.ofNat 32 k : BitVec 32)
  gateW : V (Proc.devRef .tc main_v23_0) = W3 m c (Proc.devRef .tc main_v23_0)
  upW : V (Proc.devRef .tc main_v23_1) = W3 m c (Proc.devRef .tc main_v23_1)
  downW : V (Proc.devRef .tc main_v23_2) = W3 m c (Proc.devRef .tc main_v23_2)
  gates : V (Proc.devRef .tc main_v23_3) = W3 m c (Proc.devRef .tc main_v23_3)
  rows : V (Proc.devRef .tc main_v23_4) = W3 m c (Proc.devRef .tc main_v23_4)
  sum : ∀ (r : Fin 360448) (d : Fin 2048), acc V (ix2 r d)
    = if h : (ew m c r).toNat < 64 ∧ (ew m c r).toNat < k then con m c ⟨(ew m c r).toNat, h.1⟩ r d else (0 : EReal)

/-- One trip's new sum. -/
theorem trip_sum (k : ℕ) (hk : k < 64) (V : Valuation τ sig (Elt Ideal)) (H : Inv m c k V) (r : Fin 360448) (d : Fin 2048) :
    step_main_v23_6 V (ix2 r d) = acc V (ix2 r d) + (if (ew m c r).toNat = k then (1 : EReal) else 0) * con m c ⟨k, hk⟩ r d := by
  unfold step_main_v23_6 res_main_while0b_v31
  refine (trip_at k hk (V (Proc.devRef .tc main_v23_6)) (V (Proc.devRef .tc main_v23_3)) (V (Proc.devRef .tc main_v23_4)) (V (Proc.devRef .tc main_v23_0))
    (V (Proc.devRef .tc main_v23_1)) (V (Proc.devRef .tc main_v23_2)) (V (Proc.devRef .tc main_v23_5)) H.ctr r d).trans ?_
  unfold con
  rw [H.gates, H.rows, H.gateW, H.upW, H.downW]
  rw [gate_at m c ⟨k, hk⟩ r, show (fun k => W3 m c (Proc.devRef .tc main_v23_4) (ix2 r k)) = tok m c r from funext fun k => tok_at m c r k,
    show (fun p f => W3 m c (Proc.devRef .tc main_v23_0) (ix3 (⟨k, hk⟩ : Fin 64) p f)) = wg m c ⟨k, hk⟩ from
      funext fun p => funext fun f => wg_at (W2 m c) _ (W2_arg m c main_arg3 (by decide)) ⟨k, hk⟩ p f,
    show (fun p f => W3 m c (Proc.devRef .tc main_v23_1) (ix3 (⟨k, hk⟩ : Fin 64) p f)) = wu m c ⟨k, hk⟩ from
      funext fun p => funext fun f => wu_at (W2 m c) _ (W2_arg m c main_arg4 (by decide)) ⟨k, hk⟩ p f,
    show (fun f d => W3 m c (Proc.devRef .tc main_v23_2) (ix3 (⟨k, hk⟩ : Fin 64) f d)) = wd m c ⟨k, hk⟩ from
      funext fun f => funext fun d => wd_at (W2 m c) _ (W2_arg m c main_arg5 (by decide)) ⟨k, hk⟩ f d]
  rfl

/-- One trip adds one expert's rows. -/
theorem inv_step (k : ℕ) (hk : k < 64) (V : Valuation τ sig (Elt Ideal)) (H : Inv m c k V) : Inv m c (k + 1) (STEP V) := by
  refine ⟨?_, ?_, ?_, ?_, ?_, ?_, ?_⟩
  · rw [STEP_main_v23_5]
    unfold step_main_v23_5
    rw [H.ctr]
    exact funext fun _ => BitVec.ofNat_add k 1 |>.symm
  · rw [STEP_main_v23_0]; exact H.gateW
  · rw [STEP_main_v23_1]; exact H.upW
  · rw [STEP_main_v23_2]; exact H.downW
  · rw [STEP_main_v23_3]; exact H.gates
  · rw [STEP_main_v23_4]; exact H.rows
  · intro r d
    show STEP V (Proc.devRef .tc main_v23_6) (ix2 r d) = _
    rw [STEP_main_v23_6]
    refine (trip_sum m c k hk V H r d).trans ?_
    rw [H.sum]
    by_cases h : (ew m c r).toNat = k
    · rw [if_pos h, dif_neg (by omega), dif_pos (by omega), zero_add, one_mul]
      exact congrArg (fun q => con m c q r d) (Fin.ext h.symm)
    · rw [if_neg h, zero_mul, add_zero]
      by_cases h' : (ew m c r).toNat < 64 ∧ (ew m c r).toNat < k
      · rw [dif_pos h', dif_pos ⟨h'.1, by omega⟩]
      · rw [dif_neg h', dif_neg (by omega)]

/-- After `k` trips. -/
theorem inv_iter : ∀ (k : ℕ), k ≤ 64 → Inv m c k (STEP^[k] (entryContents preI m c))
  | 0, _ => by
    rw [Function.iterate_zero, id]
    refine ⟨ctr_entry m c, by rw [entry_eq], by rw [entry_eq], by rw [entry_eq], by rw [entry_eq], by rw [entry_eq], fun r d => ?_⟩
    rw [entry_eq, dif_neg (by omega)]; exact zero_at (W2 m c) r d
  | k + 1, h => by
    rw [Function.iterate_succ_apply']
    exact inv_step m c k (by omega) _ (inv_iter k (by omega))

/-- The result at an index: two stored rows of 1024 are one token's 2048 outputs. -/
theorem out_at (R : Fin 720896) (C : Fin 1024) : out_main_v25 (STEP^[64] (entryContents preI m c)) (ix2 R C)
    = if h : (ew m c ⟨R.val / 2, by omega⟩).toNat < 64 then con m c ⟨_, h⟩ ⟨R.val / 2, by omega⟩ ⟨R.val % 2 * 1024 + C.val, by omega⟩ else (0 : EReal) := by
  have H := (inv_iter m c 64 (Nat.le_refl _)).sum ⟨R.val / 2, by omega⟩ ⟨R.val % 2 * 1024 + C.val, by omega⟩
  simp only [and_self] at H
  rw [← H]
  generalize STEP^[64] (entryContents preI m c) = V
  unfold out_main_v25 acc
  generalize V (Proc.devRef .tc main_v23_6) = ys
  pointwise

end Cert.Proof.MoeRef
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Reference2Ideal.Run
public import proofs.«01_k».proof.Proof.Gen.Pre_experts_and_tiles
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.RgKernel
public import proofs.«01_k».proof.Proof.RgLoop
public import proofs.«01_k».proof.Proof.InKernel
public import proofs.«01_k».proof.Proof.InRef
public import proofs.«01_k».proof.Proof.MoeBitsOk
public import proofs.«01_k».proof.Proof.MoeOk
public import proofs.«01_k».proof.Proof.MoeValue
public import proofs.«01_k».proof.Proof.MoeRef
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's run at the ideal instance: the result array is the recurrence's states, the arguments are unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v12) = Rg.kOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) := by
  open Cert.KernelIdeal Cert.KernelIdeal.Gen in
  refine (θ_run _ _ _).mono (fun r h c => ?_) (run_main m g)
  refine ⟨((h c).1 10).trans (Rg.final10 m c), ?_, ?_, ?_, ?_, ?_, ?_, ?_, ?_, ?_⟩
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).1 3).trans (((dats m 0 c).arrAt_in 3 rfl _).trans ((A_eq m c 3).trans (V_main_arg2 m c)))
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)
  · exact ((h c).2 main_arg8 (Pipeline.mem_restRefs_of main_arg8 (by decide) (by decide))).trans (V_main_arg8 m c)

/-- From memories that agree on the arguments both programs compute the same recurrence, so the same rows. -/
theorem same_value : Cert.algebraic_KernelIdeal_ReferenceIdeal (hKernelIdeal := Cert.KernelIdeal.Gen.facts) (hReferenceIdeal := Cert.ReferenceIdeal.Gen.facts) := by
  intro m g m' g' _ hag
  refine ⟨fun c => Rg.kOut m c, kernel_run m g, ?_⟩
  refine (θ_run _ _ _).mono (fun _ h c => ⟨(h c).1.trans ?_, (h c).2⟩) (Cert.ReferenceIdeal.Value.run (F := Ideal) m' g')
  obtain ⟨h0, h1, h2, h3, h4, h5, h6, h7, h8⟩ := hag c
  refine funext fun i => ?_
  obtain ⟨r, w, rfl⟩ : ∃ (r : Fin 36864) (w : Fin 2048), i = ix2 r w := ⟨i 0, i 1, eq_ix2 i⟩
  refine (RgRef.out_at m' c r w).trans ?_
  have ex : RgRef.rx m' c = Rg.kx m c := by unfold RgRef.rx Rg.kx; rw [h0, h1]
  have e2 : RgRef.rcw m' c = Rg.kcw m c := by unfold RgRef.rcw Rg.kcw; rw [h2]
  have e3 : RgRef.rcb m' c = Rg.kcb m c := by unfold RgRef.rcb Rg.kcb; rw [h3]
  have e4 : RgRef.rwa m' c = Rg.kwa m c := by unfold RgRef.rwa Rg.kwa; rw [h4]
  have e5 : RgRef.rba m' c = Rg.kba m c := by unfold RgRef.rba Rg.kba; rw [h5]
  have e6 : RgRef.rwi m' c = Rg.kwi m c := by unfold RgRef.rwi Rg.kwi; rw [h6]
  have e7 : RgRef.rbi m' c = Rg.kbi m c := by unfold RgRef.rbi Rg.kbi; rw [h7]
  have e8 : RgRef.rlam m' c = Rg.klam m c := by unfold RgRef.rlam Rg.klam; rw [h8]
  unfold RgRef.rh Rg.kOut Rg.kh
  rw [ex, e2, e3, e4, e5, e6, e7, e8]
  rfl

/-- The expert call ends with every used tile's tokens through their expert and its arguments unchanged. -/
theorem experts_run (m : (ℓ : Loc Cert.Kernel2Ideal.nD Cert.Kernel2Ideal.τ Cert.Kernel2Ideal.sig) → Buf (Elt Ideal) ℓ) (g : Dev Cert.Kernel2Ideal.nD → PrngReg)
    (h : Cert.Pre_Kernel2Ideal (hPre_experts_and_tiles := Cert.Pre_experts_and_tiles.Gen.facts) m) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v0) = Moe.kOut m c
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)) :=
  (θ_run _ _ _).mono (fun r hr c => ⟨((hr.1 c).1 4).trans (Moe.final4 m c (Moe.pre_experts m h) (Moe.pre_tiles m h) (Moe.ok_of_pre m h)),
    Moe.frame_of m (Moe.ok_of_pre m h) (Moe.dats m (Moe.ok_of_pre m h)) (Moe.A_eq m (Moe.ok_of_pre m h)) r hr.1 c⟩) (Moe.run_all m g (Moe.ok_of_pre m h))

/-- The reference's value at an index is the kernel's, for memories that agree on the arguments and meet the
    precondition: a used tile's rows have its expert, the others have none. -/
theorem experts_value (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (h : Cert.Pre_Kernel2Ideal (hPre_experts_and_tiles := Cert.Pre_experts_and_tiles.Gen.facts) m) (c : Dev Cert.Kernel2Ideal.nD)
    (e0 : ∀ t, MoeRef.te m' c t = Moe.kte m c t) (e1 : MoeRef.nu m' c = Moe.knu m c) (e2 : MoeRef.tok m' c = Moe.ktok m c)
    (e3 : MoeRef.wg m' c = Moe.kwg m c) (e4 : MoeRef.wu m' c = Moe.kwu m c) (e5 : MoeRef.wd m' c = Moe.kwd m c) (R : Fin 720896) (C : Fin 1024) :
    (if h : (MoeRef.ew m' c ⟨R.val / 2, by omega⟩).toNat < 64 then MoeRef.con m' c ⟨_, h⟩ ⟨R.val / 2, by omega⟩ ⟨R.val % 2 * 1024 + C.val, by omega⟩ else (0 : EReal))
      = Moe.kOutAt m c R C := by
  have ht : R.val / 2 / 1024 = R.val / 2048 := by omega
  have hk := Moe.kex_val m c (Moe.pre_experts m h) ⟨R.val / 2048, by omega⟩
  have et : (⟨R.val / 2 / 1024, by omega⟩ : Fin 352) = ⟨R.val / 2048, by omega⟩ := Fin.ext ht
  have hw : MoeRef.ew m' c ⟨R.val / 2, by omega⟩
      = if ((R.val / 2048 : ℕ) : ℤ) < (Moe.knu m c).toInt then Moe.kte m c ⟨R.val / 2048, by omega⟩ else 4294967295#32 := by
    unfold MoeRef.ew
    rw [WordCmp.cmpi_slt_eq, e1, e0]
    simp only [WordCmp.ofBool_decide_eq_one_iff]
    show (if (BitVec.ofNat 32 (R.val / 2 / 1024)).toInt < _ then Moe.kte m c ⟨R.val / 2 / 1024, _⟩ else _) = _
    rw [MoeWords.num_toInt _ (by omega)]
    simp only [ht]
  unfold Moe.kOutAt
  by_cases hu : ((R.val / 2048 : ℕ) : ℤ) < (Moe.knu m c).toInt
  · rw [if_pos hu] at hw ⊢
    have hlt : (MoeRef.ew m' c ⟨R.val / 2, by omega⟩).toNat < 64 := by rw [hw, ← hk]; exact Fin.isLt _
    rw [dif_pos hlt]
    have eE : (⟨(MoeRef.ew m' c ⟨R.val / 2, by omega⟩).toNat, hlt⟩ : Fin 64) = Moe.kex m c ⟨R.val / 2048, by omega⟩ := Fin.ext ((congrArg BitVec.toNat hw).trans hk.symm)
    rw [eE]
    unfold MoeRef.con
    rw [e2, e3, e4, e5]
  · rw [if_neg hu] at hw ⊢
    rw [dif_neg (by rw [hw]; decide)]

/-- From memories that agree on the arguments, the tables within their ranges, the expert call computes what the reference does. -/
theorem same_experts : Cert.algebraic_Kernel2Ideal_Reference2Ideal (hKernel2Ideal := Cert.Kernel2Ideal.Gen.facts) (hReference2Ideal := Cert.Reference2Ideal.Gen.facts)
    (hPre_experts_and_tiles := Cert.Pre_experts_and_tiles.Gen.facts) := by
  intro m g m' g' h hag
  refine ⟨fun c => Moe.kOut m c, experts_run m g h, ?_⟩
  refine (θ_run _ _ _).mono (fun _ hr c => ⟨(hr c).1.trans ?_, (hr c).2⟩) (Cert.Reference2Ideal.Value.run (F := Ideal) m' g')
  obtain ⟨h0, h1, h2, h3, h4, h5⟩ := hag c
  refine funext fun i => ?_
  obtain ⟨R, C, rfl⟩ : ∃ (R : Fin 720896) (C : Fin 1024), i = ix2 R C := ⟨i 0, i 1, eq_ix2 i⟩
  refine (MoeRef.out_at m' c R C).trans (experts_value m m' h c ?_ ?_ ?_ ?_ ?_ ?_ R C)
  · intro t; exact congrFun h0 (ix1 t)
  · exact congrFun h1 (ix1 0)
  · unfold MoeRef.tok Moe.ktok; rw [h2]
  · unfold MoeRef.wg Moe.kwg; rw [h3]
  · unfold MoeRef.wu Moe.kwu; rw [h4]
  · unfold MoeRef.wd Moe.kwd; rw [h5]

/-- The pairs of rows that the expert call reads and writes as words: the rules' statements at its shapes. -/
theorem preserved : Cert.preserves_Kernel2_Kernel2Ideal := ⟨IdealRules.bf16_pair.statement _ _, IdealRules.bf16_pack.statement _⟩

/-- From memories that agree on the arguments the input projection computes the reference's two arrays. -/
theorem same_projection : Cert.algebraic_Kernel3Ideal_Reference3Ideal (hKernel3Ideal := Cert.Kernel3Ideal.Gen.facts) (hReference3Ideal := Cert.Reference3Ideal.Gen.facts) := by
  intro m g m' g' _ hag
  refine ⟨fun c => In.kGate m c, fun c => In.kRec m c, ?_, ?_⟩
  · exact (θ_run _ _ _).mono (fun r h c => ⟨(h c).1.trans (In.final5 m c), (h c).2.1.trans (In.final6 m c), (h c).2.2⟩) (Cert.Kernel3Ideal.Value.run_blocks (F := Ideal) m g)
  have e : ∀ c, InRef.rz m' c = In.kz m c := fun c => by
    obtain ⟨h0, h1, h2, h3, h4, h5⟩ := hag c
    unfold InRef.rz In.kz In.ka0 In.ka1 In.kg In.kmc In.kml In.kw
    rw [h0, h1, h2, h3, h4, h5]
  refine (θ_run _ _ _).mono (fun _ h c => ⟨(h c).1.trans ?_, (h c).2.1.trans ?_, (h c).2.2⟩) (Cert.Reference3Ideal.Value.run (F := Ideal) m' g')
  · refine funext fun i => ?_
    obtain ⟨r, w, rfl⟩ : ∃ (r : Fin 36864) (w : Fin 2048), i = ix2 r w := ⟨i 0, i 1, eq_ix2 i⟩
    refine (InRef.gate_at m' c r w).trans ?_
    rw [e]
    rfl
  · refine Eq.trans (b := InRef.recT m' c) rfl ?_
    refine funext fun i => ?_
    obtain ⟨r, w, rfl⟩ : ∃ (r : Fin 36864) (w : Fin 2048), i = ix2 r w := ⟨i 0, i 1, eq_ix2 i⟩
    refine (InRef.rec_at m' c r w).trans ?_
    rw [e]
    rfl

/-- The programs run and leave their arguments as they were, the kernels' two readings agree, and each kernel computes what its reference does. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Pre_experts_and_tiles.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run (F := Ideal) m ρ),
  fun m ρ h => MoeBits.frame m ρ (MoeBits.ok_of_pre m h), fun m ρ h => Moe.frame m ρ (Moe.ok_of_pre m h),
  fun m ρ _ => (θ_run Cert.Reference2Ideal.defs _ _).mono (fun r h => ⟨fun c => (h c).2, sem_eq_zero_of_no_sems (by decide) r.2⟩) (Cert.Reference2Ideal.Value.run (F := Ideal) m ρ),
  fun m ρ _ => (θ_run Cert.Reference2Ideal.defs _ _).mono (fun r h => ⟨fun c => (h c).2, sem_eq_zero_of_no_sems (by decide) r.2⟩) (Cert.Reference2Ideal.Value.run (F := Ideal) m ρ),
  fun m ρ _ => Cert.Kernel3.Gen.frame m ρ, fun m ρ _ => Cert.Kernel3Ideal.Gen.frame m ρ,
  fun m ρ _ => (θ_run Cert.Reference3Ideal.defs _ _).mono (fun r h => ⟨fun c => (h c).2.2, sem_eq_zero_of_no_sems (by decide) r.2⟩) (Cert.Reference3Ideal.Value.run (F := Ideal) m ρ),
  trivial, same_value, preserved, same_experts, trivial, same_projection⟩

end Cert.Proof

end
